-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scaled_maximum_is_normal [hPre_scaled_maximum_is_normal : Cert.Pre_scaled_maximum_is_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scaled_maximum_is_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scaled_maximum_is_normal [hPre_scaled_maximum_is_normal : Cert.Pre_scaled_maximum_is_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scaled_maximum_is_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scaled_maximum_is_normal [hKernelIdeal : Cert.KernelIdeal.Facts] [hPre_scaled_maximum_is_normal : Cert.Pre_scaled_maximum_is_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scaled_maximum_is_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scaled_maximum_is_normal [hReferenceIdeal : Cert.ReferenceIdeal.Facts] [hPre_scaled_maximum_is_normal : Cert.Pre_scaled_maximum_is_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scaled_maximum_is_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scaled_maximum_is_normal [hKernelIdeal : Cert.KernelIdeal.Facts] [hReferenceIdeal : Cert.ReferenceIdeal.Facts] [hPre_scaled_maximum_is_normal : Cert.Pre_scaled_maximum_is_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scaled_maximum_is_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scaled_maximum_is_normal : Cert.Pre_scaled_maximum_is_normal.Facts),
    quiescent_Kernel (hKernel := hKernel)
    ∧ quiescent_KernelIdeal (hKernelIdeal := hKernelIdeal)
    ∧ quiescent_KernelIdeal_pre_scaled_maximum_is_normal (hKernelIdeal := hKernelIdeal) (hPre_scaled_maximum_is_normal := hPre_scaled_maximum_is_normal)
    ∧ quiescent_ReferenceIdeal (hReferenceIdeal := hReferenceIdeal)
    ∧ quiescent_ReferenceIdeal_pre_scaled_maximum_is_normal (hReferenceIdeal := hReferenceIdeal) (hPre_scaled_maximum_is_normal := hPre_scaled_maximum_is_normal)
    ∧ preserves_Kernel_KernelIdeal
    ∧ algebraic_KernelIdeal_ReferenceIdeal_pre_scaled_maximum_is_normal (hKernelIdeal := hKernelIdeal) (hReferenceIdeal := hReferenceIdeal) (hPre_scaled_maximum_is_normal := hPre_scaled_maximum_is_normal)
-- ==== Pre_scaled_maximum_is_normal.lean ====
abbrev S24x1x4096 : Shape := ⟨3, ![24, 1, 4096]⟩
abbrev S14336x4096 : Shape := ⟨2, ![14336, 4096]⟩
abbrev S112x32 : Shape := ⟨2, ![112, 32]⟩
abbrev S24x32x128 : Shape := ⟨3, ![24, 32, 128]⟩
abbrev S_ : Shape := ⟨0, ![]⟩
abbrev S24x32 : Shape := ⟨2, ![24, 32]⟩

class Facts : Prop where
  bitsLt_bf16_f32 : FTy.bits .bf16 < FTy.bits .f32
  shapeCasts_S24x1x4096_S24x32x128 : S24x1x4096.ShapeCasts S24x32x128
  reducesTo_S24x32x128_S24x32_d2 : S24x32x128.ReducesTo [2] S24x32
  h_S_ : 0 < S_.numel
  bcast_S_S24x32 : S_.BroadcastsInDim S24x32 (![] : Fin 0 → Fin S24x32.rank)

variable [Facts]

def fn {F : FTy → Type} [FloatOps F] (main_arg0 : FVec F S24x1x4096 .bf16) (main_arg1 : FVec F S14336x4096 .fp8e4m3) (main_arg2 : FVec F S112x32 .f32) : IVec S24x32 1 :=
  let main_v0 : FVec F S24x1x4096 .f32 := (extf .f32 · bitsLt_bf16_f32) main_arg0
  let main_v1 : FVec F S24x1x4096 .f32 := Host.absf main_v0
  let main_v2 : FVec F S24x32x128 .f32 := shapeCast S24x32x128 main_v1 shapeCasts_S24x1x4096_S24x32x128
  let main_cst : FVec F S_ .f32 := constant S_ .f32 0xFF800000#32
  let main_v3 : FVec F S24x32 .f32 := (fun x v => Host.reduce FloatOps.maximumf x v reducesTo_S24x32x128_S24x32_d2 h_S_) main_v2 main_cst
  let main_cst_0 : FVec F S_ .f32 := constant S_ .f32 0x3B124925#32
  let main_v4 : FVec F S24x32 .f32 := broadcastInDim S24x32 ![] bcast_S_S24x32 main_cst_0
  let main_v5 : FVec F S24x32 .f32 := mulf main_v3 main_v4
  let main_cst_1 : FVec F S_ .f32 := constant S_ .f32 0x00000000#32
  let main_v6 : FVec F S24x32 .f32 := broadcastInDim S24x32 ![] bcast_S_S24x32 main_cst_1
  let main_v7 : IVec S24x32 1 := cmpf .oeq main_v3 main_v6
  let main_cst_2 : FVec F S_ .f32 := constant S_ .f32 0x00800000#32
  let main_v8 : FVec F S24x32 .f32 := broadcastInDim S24x32 ![] bcast_S_S24x32 main_cst_2
  let main_v9 : IVec S24x32 1 := cmpf .oge main_v5 main_v8
  let main_cst_3 : FVec F S_ .f32 := constant S_ .f32 0x7E800000#32
  let main_v10 : FVec F S24x32 .f32 := broadcastInDim S24x32 ![] bcast_S_S24x32 main_cst_3
  let main_v11 : IVec S24x32 1 := cmpf .olt main_v5 main_v10
  let main_v12 : IVec S24x32 1 := andi main_v9 main_v11
  let main_v13 : IVec S24x32 1 := ori main_v7 main_v12
  main_v13
-- ==== Kernel.lean ====
abbrev S24x1x4096 : Shape := ⟨3, ![24, 1, 4096]⟩
abbrev S14336x4096 : Shape := ⟨2, ![14336, 4096]⟩
abbrev S112x32 : Shape := ⟨2, ![112, 32]⟩
abbrev S24x4096 : Shape := ⟨2, ![24, 4096]⟩
abbrev S32x112 : Shape := ⟨2, ![32, 112]⟩
abbrev S24x14336 : Shape := ⟨2, ![24, 14336]⟩
abbrev S24x32 : Shape := ⟨2, ![24, 32]⟩
abbrev S16x256x4096 : Shape := ⟨3, ![16, 256, 4096]⟩
abbrev S112x4096 : Shape := ⟨2, ![112, 4096]⟩
abbrev S16 : Shape := ⟨1, ![16]⟩
abbrev S5 : Shape := ⟨1, ![5]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S112x1 : Shape := ⟨2, ![112, 1]⟩
abbrev S112x128 : Shape := ⟨2, ![112, 128]⟩
abbrev S24x128 : Shape := ⟨2, ![24, 128]⟩
abbrev S24 : Shape := ⟨1, ![24]⟩
abbrev S24x1 : Shape := ⟨2, ![24, 1]⟩
abbrev S24x256 : Shape := ⟨2, ![24, 256]⟩
abbrev S1x4096 : Shape := ⟨2, ![1, 4096]⟩
abbrev S48x4096 : Shape := ⟨2, ![48, 4096]⟩
abbrev S48x256 : Shape := ⟨2, ![48, 256]⟩
abbrev S24x1x14336 : Shape := ⟨3, ![24, 1, 14336]⟩
abbrev S24x1x32 : Shape := ⟨3, ![24, 1, 32]⟩

abbrev nBuf : Space → Nat
  | .hbm => 11
  | .vmem => 8
  | .smem => 0
  | _ => 0

abbrev bufTy : (tb : Table) → Fin (tcTables nBuf tb) → BufTy
  | .hbm, ⟨0, _⟩ => ⟨S24x1x4096, .bf16⟩
  | .hbm, ⟨1, _⟩ => ⟨S14336x4096, .fp8e4m3⟩
  | .hbm, ⟨2, _⟩ => ⟨S112x32, .f32⟩
  | .hbm, ⟨3, _⟩ => ⟨S24x4096, .bf16⟩
  | .hbm, ⟨4, _⟩ => ⟨S32x112, .f32⟩
  | .hbm, ⟨5, _⟩ => ⟨S24x14336, .bf16⟩
  | .hbm, ⟨6, _⟩ => ⟨S24x4096, .fp8e4m3⟩
  | .hbm, ⟨7, _⟩ => ⟨S24x32, .f32⟩
  | .hbm, ⟨8, _⟩ => ⟨S24x1x14336, .bf16⟩
  | .hbm, ⟨9, _⟩ => ⟨S24x1x4096, .fp8e4m3⟩
  | .hbm, ⟨10, _⟩ => ⟨S24x1x32, .f32⟩
  | .local _ .vmem, ⟨0, _⟩ => ⟨S24x4096, .bf16⟩
  | .local _ .vmem, ⟨1, _⟩ => ⟨S32x112, .f32⟩
  | .local _ .vmem, ⟨2, _⟩ => ⟨S16x256x4096, .fp8e4m3⟩
  | .local _ .vmem, ⟨3, _⟩ => ⟨S24x4096, .fp8e4m3⟩
  | .local _ .vmem, ⟨4, _⟩ => ⟨S24x32, .f32⟩
  | .local _ .vmem, ⟨5, _⟩ => ⟨S24x4096, .f32⟩
  | .local _ .vmem, ⟨6, _⟩ => ⟨S112x4096, .f32⟩
  | .local _ .vmem, ⟨7, _⟩ => ⟨S24x14336, .bf16⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩

abbrev nD : Nat := 1
abbrev τ : Topo := Topo.v7x

variable {F : FTy → Type} [FloatOps F]

abbrev grid0 : Pipeline.Grid := .none

@[reducible] def k0_t1_loop : Scf.Loop 32 :=
  let c0_i32_760 : BitVec 32 := 0#32
  let c56_i32 : BitVec 32 := 56#32
  let v2181 : BitVec 32 := Scalar.addi c0_i32_760 c56_i32
  let c1_i32_761 : BitVec 32 := 1#32
  ⟨c0_i32_760, v2181, c1_i32_761⟩
def k0_off1 (k0_t1 : Fin k0_t1_loop.trips) (c0_i32_771 : BitVec 32) : Fin 2 → Nat :=
  let c2_i32_770 : BitVec 32 := 2#32
  let c0_i32_760 : BitVec 32 := 0#32
  let c1_i32_761 : BitVec 32 := 1#32
  let arg16 : BitVec 32 := Scf.iv c0_i32_760 c1_i32_761 k0_t1
  let v2192 : BitVec 32 := Scalar.muli c2_i32_770 arg16
  let v2193 : BitVec 32 := Scalar.addi v2192 c0_i32_771
  let v2194 : Index := Scalar.indexCast v2193
  let c0_772 : Index := 0#32
  ![v2194.toNat, 0]
def k0_off2 (k0_t1 : Fin k0_t1_loop.trips) : Fin 1 → Nat :=
  let c0_i32_760 : BitVec 32 := 0#32
  let c1_i32_761 : BitVec 32 := 1#32
  let arg16 : BitVec 32 := Scf.iv c0_i32_760 c1_i32_761 k0_t1
  let c16_i32_767 : BitVec 32 := 16#32
  let v2190 : BitVec 32 := Scalar.remsi arg16 c16_i32_767
  ![v2190.toNat]
def k0_off3 (k0_t1 : Fin k0_t1_loop.trips) : Fin 3 → Nat :=
  let c0_i32_760 : BitVec 32 := 0#32
  let c1_i32_761 : BitVec 32 := 1#32
  let arg16 : BitVec 32 := Scf.iv c0_i32_760 c1_i32_761 k0_t1
  let c16_i32_767 : BitVec 32 := 16#32
  let v2190 : BitVec 32 := Scalar.remsi arg16 c16_i32_767
  let c0_i32_777 : BitVec 32 := 0#32
  let c0_i32_778 : BitVec 32 := 0#32
  ![v2190.toNat, 0, 0]
def k0_off4 (k0_t1 : Fin k0_t1_loop.trips) : Fin 2 → Nat :=
  let c0_i32_760 : BitVec 32 := 0#32
  let c1_i32_761 : BitVec 32 := 1#32
  let arg16 : BitVec 32 := Scf.iv c0_i32_760 c1_i32_761 k0_t1
  let c256_i32_776 : BitVec 32 := 256#32
  let v2206 : BitVec 32 := Scalar.muli arg16 c256_i32_776
  let c0_i32_779 : BitVec 32 := 0#32
  ![v2206.toNat, 0]
def k0_off5 (k0_t1 : Fin k0_t1_loop.trips) : Fin 3 → Nat :=
  let c0_i32_760 : BitVec 32 := 0#32
  let c1_i32_761 : BitVec 32 := 1#32
  let arg16 : BitVec 32 := Scf.iv c0_i32_760 c1_i32_761 k0_t1
  let c16_i32_767 : BitVec 32 := 16#32
  let v2190 : BitVec 32 := Scalar.remsi arg16 c16_i32_767
  let v2212 : Index := Scalar.indexCast v2190
  let c0_780 : Index := 0#32
  let c0_781 : Index := 0#32
  ![v2212.toNat, 0, 0]
def k0_mult1 (k0_t1 : Fin k0_t1_loop.trips) : BitVec 32 :=
  let c0_i32_760 : BitVec 32 := 0#32
  let c1_i32_761 : BitVec 32 := 1#32
  let arg16 : BitVec 32 := Scf.iv c0_i32_760 c1_i32_761 k0_t1
  let c256_i32_783 : BitVec 32 := 256#32
  let v2220 : BitVec 32 := Scalar.muli arg16 c256_i32_783
  v2220
def k0_off6 (k0_t1 : Fin k0_t1_loop.trips) : Fin 2 → Nat :=
  let c0_784 : Index := 0#32
  let c0_i32_760 : BitVec 32 := 0#32
  let c1_i32_761 : BitVec 32 := 1#32
  let arg16 : BitVec 32 := Scf.iv c0_i32_760 c1_i32_761 k0_t1
  let c256_i32_783 : BitVec 32 := 256#32
  let v2220 : BitVec 32 := Scalar.muli arg16 c256_i32_783
  let v2221 : BitVec 32 := v2220
  let v2222 : Index := Scalar.indexCast v2221
  ![0, v2222.toNat]
def k0_cond1 (k0_t1 : Fin k0_t1_loop.trips) : BitVec 1 :=
  let c0_i32_760 : BitVec 32 := 0#32
  let c1_i32_761 : BitVec 32 := 1#32
  let arg16 : BitVec 32 := Scf.iv c0_i32_760 c1_i32_761 k0_t1
  let c16_i32_785 : BitVec 32 := 16#32
  let v2226 : BitVec 32 := Scalar.addi arg16 c16_i32_785
  let c56_i32_786 : BitVec 32 := 56#32
  let v2227 : BitVec 1 := Scalar.cmpi .slt v2226 c56_i32_786
  let v2228 : BitVec 32 := Scalar.extui v2227
  let c0_i32_787 : BitVec 32 := 0#32
  let v2229 : BitVec 1 := Scalar.cmpi .ne v2228 c0_i32_787
  v2229

def k0_off7 (k0_t1 : Fin k0_t1_loop.trips) : Fin 1 → Nat :=
  let c0_i32_760 : BitVec 32 := 0#32
  let c1_i32_761 : BitVec 32 := 1#32
  let arg16 : BitVec 32 := Scf.iv c0_i32_760 c1_i32_761 k0_t1
  let c16_i32_767 : BitVec 32 := 16#32
  let v2190 : BitVec 32 := Scalar.remsi arg16 c16_i32_767
  ![v2190.toNat]
def k0_off8 (k0_t1 : Fin k0_t1_loop.trips) : Fin 3 → Nat :=
  let c0_i32_760 : BitVec 32 := 0#32
  let c1_i32_761 : BitVec 32 := 1#32
  let arg16 : BitVec 32 := Scf.iv c0_i32_760 c1_i32_761 k0_t1
  let c16_i32_767 : BitVec 32 := 16#32
  let v2190 : BitVec 32 := Scalar.remsi arg16 c16_i32_767
  let c0_i32_790 : BitVec 32 := 0#32
  let c0_i32_791 : BitVec 32 := 0#32
  ![v2190.toNat, 0, 0]
def k0_off9 (k0_t1 : Fin k0_t1_loop.trips) : Fin 2 → Nat :=
  let c0_i32_760 : BitVec 32 := 0#32
  let c1_i32_761 : BitVec 32 := 1#32
  let arg16 : BitVec 32 := Scf.iv c0_i32_760 c1_i32_761 k0_t1
  let c16_i32_788 : BitVec 32 := 16#32
  let v2230 : BitVec 32 := Scalar.addi arg16 c16_i32_788
  let c256_i32_789 : BitVec 32 := 256#32
  let v2231 : BitVec 32 := Scalar.muli v2230 c256_i32_789
  let c0_i32_792 : BitVec 32 := 0#32
  ![v2231.toNat, 0]
-- ==== ReferenceIdeal.lean ====
abbrev S24x1x4096 : Shape := ⟨3, ![24, 1, 4096]⟩
abbrev S14336x4096 : Shape := ⟨2, ![14336, 4096]⟩
abbrev S112x32 : Shape := ⟨2, ![112, 32]⟩
abbrev S24x1x14336 : Shape := ⟨3, ![24, 1, 14336]⟩
abbrev S24x1x32 : Shape := ⟨3, ![24, 1, 32]⟩
abbrev S24x32x128 : Shape := ⟨3, ![24, 32, 128]⟩
abbrev S24x32 : Shape := ⟨2, ![24, 32]⟩
abbrev S24x32x1 : Shape := ⟨3, ![24, 32, 1]⟩
abbrev S1x24x32x128 : Shape := ⟨4, ![1, 24, 32, 128]⟩
abbrev S112x1x32x1 : Shape := ⟨4, ![112, 1, 32, 1]⟩
abbrev S112x24x32x128 : Shape := ⟨4, ![112, 24, 32, 128]⟩
abbrev S112x24x4096 : Shape := ⟨3, ![112, 24, 4096]⟩
abbrev S112x128x4096 : Shape := ⟨3, ![112, 128, 4096]⟩
abbrev S112x24x128 : Shape := ⟨3, ![112, 24, 128]⟩
abbrev S24x112x128 : Shape := ⟨3, ![24, 112, 128]⟩

abbrev nBuf : Space → Nat
  | .hbm => 6
  | .vmem => 6
  | .smem => 0
  | _ => 0

abbrev bufTy : (tb : Table) → Fin (tcTables nBuf tb) → BufTy
  | .hbm, ⟨0, _⟩ => ⟨S24x1x4096, .bf16⟩
  | .hbm, ⟨1, _⟩ => ⟨S14336x4096, .fp8e4m3⟩
  | .hbm, ⟨2, _⟩ => ⟨S112x32, .f32⟩
  | .hbm, ⟨3, _⟩ => ⟨S24x1x14336, .bf16⟩
  | .hbm, ⟨4, _⟩ => ⟨S24x1x4096, .fp8e4m3⟩
  | .hbm, ⟨5, _⟩ => ⟨S24x1x32, .f32⟩
  | .local _ .vmem, ⟨0, _⟩ => ⟨S24x1x4096, .bf16⟩
  | .local _ .vmem, ⟨1, _⟩ => ⟨S14336x4096, .fp8e4m3⟩
  | .local _ .vmem, ⟨2, _⟩ => ⟨S112x32, .f32⟩
  | .local _ .vmem, ⟨3, _⟩ => ⟨S24x1x14336, .bf16⟩
  | .local _ .vmem, ⟨4, _⟩ => ⟨S24x1x4096, .fp8e4m3⟩
  | .local _ .vmem, ⟨5, _⟩ => ⟨S24x1x32, .f32⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24x1x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.IdealNames.lean ====
/-
  The kernel's ring of weight blocks: the canonical names of its slots, cells and groups, the closed forms of the
  loop's offsets, and the pieces of memory the proof of the body is stated over.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.IdealBody

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
/-- An equality of assertions, used as an entailment. -/
theorem entails_of_eq {P Q : sProp 𝕄} (e : P = Q) : P ⊢ Q := e ▸ .rfl

/-! ## Canonical names: block `b` of the weight, slot `s` of the ring, slot `s`'s cell -/

abbrev wM : Memref sig .tc .hbm S14336x4096 .fp8e4m3 := Memref.whole main_arg1
abbrev bufM : Memref sig .tc .vmem S16x256x4096 .fp8e4m3 := Memref.whole cc0_scratch2

abbrev grpOff (b : Fin 56) : Fin 2 → Nat := ![256 * b.val, 0]
theorem grpOff_inb (b : Fin 56) : ∀ a, grpOff b a + S256x4096.size a ≤ S14336x4096.size a := by
  have := b.isLt; intro a; fin_cases a
  · show 256 * b.val + 256 ≤ 14336; omega
  · show 0 + 4096 ≤ 4096; omega
abbrev slotOff (s : Fin 16) : Fin 3 → Nat := ![s.val, 0, 0]
theorem slotOff_inb (s : Fin 16) : ∀ a, slotOff s a + S1x256x4096.size a ≤ S16x256x4096.size a := by
  have := s.isLt; intro a; fin_cases a
  · show s.val + 1 ≤ 16; omega
  · show 0 + 256 ≤ 256; omega
  · show 0 + 4096 ≤ 4096; omega
abbrev semOff (s : Fin 16) : Fin 1 → Nat := ![s.val]
theorem semOff_inb (s : Fin 16) : ∀ a, semOff s a + S1.size a ≤ S16.size a := by
  have := s.isLt; intro a; fin_cases a; show s.val + 1 ≤ 16; omega

/-- Block `b` of the weight: its rows `256 b` to `256 b + 255`. -/
def grp (b : Fin 56) : Memref sig .tc .hbm S256x4096 .fp8e4m3 :=
  wM.slice (Rect.unit (s := S14336x4096) (grpOff b) S256x4096.size (grpOff_inb b)) (fun _ => rfl)
/-- Slot `s` of the ring, as the body slices and squeezes it. -/
def rslot (s : Fin 16) : Memref sig .tc .vmem S256x4096 .fp8e4m3 :=
  (bufM.slice (Rect.unit (s := S16x256x4096) (slotOff s) S1x256x4096.size (slotOff_inb s)) (fun _ => rfl)).squeeze S256x4096 squeezes_S1x256x4096_S256x4096
/-- Slot `s`'s semaphore. -/
def csm (s : Fin 16) : DmaSems sig S_ := (cc0_scratch8.slice (Rect.unit (s := S16) (semOff s) S1.size (semOff_inb s))).squeeze S_ squeezes_S1_S_

instance (s : Fin 16) : ClosedOff (slotOff s) := ⟨slotOff s, rfl⟩
instance (b : Fin 56) : ClosedOff (grpOff b) := ⟨grpOff b, rfl⟩

/-! ## The loop's offsets in closed form -/

section Chain
open Affine

theorem trips_eq : k0_t1_loop.trips = 56 := by decide

variable (k : Fin k0_t1_loop.trips)

theorem k_lt : k.val < 56 := Nat.lt_of_lt_of_eq k.isLt trips_eq
theorem isInt_iv : IsInt (Scf.iv 0#32 1#32 k.val) k.val :=
  iv (e := k.val) (ofNat (e := 0) 0 ⟨rfl, by decide⟩) (ofNat (e := 1) 1 ⟨rfl, by decide⟩) k.val ⟨by omega, by omega, by have := k_lt k; omega⟩
theorem isInt_rem : IsInt (Scalar.remsi (Scf.iv 0#32 1#32 k.val) 16#32) (k.val % 16 : Nat) :=
  remsi (e := (k.val % 16 : Nat)) (isInt_iv k) (ofNat (e := 16) 16 ⟨rfl, by decide⟩) ⟨by omega, by omega, by omega⟩
theorem isInt_row : IsInt (Scalar.muli (Scf.iv 0#32 1#32 k.val) 256#32) (256 * k.val : Nat) :=
  muli (e := (256 * k.val : Nat)) (isInt_iv k) (ofNat (e := 256) 256 ⟨rfl, by decide⟩) ⟨by push_cast; omega, by omega, by have := k_lt k; push_cast; omega⟩
theorem isInt_next : IsInt (Scalar.addi (Scf.iv 0#32 1#32 k.val) 16#32) (k.val + 16 : Nat) :=
  addi (e := (k.val + 16 : Nat)) (isInt_iv k) (ofNat (e := 16) 16 ⟨rfl, by decide⟩) ⟨by push_cast; omega, by omega, by have := k_lt k; push_cast; omega⟩
theorem isInt_nextrow : IsInt (Scalar.muli (Scalar.addi (Scf.iv 0#32 1#32 k.val) 16#32) 256#32) (256 * (k.val + 16) : Nat) :=
  muli (e := (256 * (k.val + 16) : Nat)) (isInt_next k) (ofNat (e := 256) 256 ⟨rfl, by decide⟩) ⟨by push_cast; omega, by omega, by have := k_lt k; push_cast; omega⟩
theorem isInt_two : IsInt (Scalar.muli 2#32 (Scf.iv 0#32 1#32 k.val)) (2 * k.val : Nat) :=
  muli (e := (2 * k.val : Nat)) (ofNat (e := 2) 2 ⟨rfl, by decide⟩) (isInt_iv k) ⟨by push_cast; omega, by omega, by have := k_lt k; push_cast; omega⟩

theorem off1_eq0 : k0_off1 k 0#32 = ![2 * k.val, 0] :=
  vec_cons (indexCast (addi (e := (2 * k.val : Nat)) (isInt_two k) (ofNat (e := 0) 0 ⟨rfl, by decide⟩) ⟨by omega, by omega, by have := k_lt k; push_cast; omega⟩)) rfl rfl
theorem off1_eq1 : k0_off1 k 1#32 = ![2 * k.val + 1, 0] :=
  vec_cons (indexCast (addi (e := (2 * k.val + 1 : Nat)) (isInt_two k) (ofNat (e := 1) 1 ⟨rfl, by decide⟩) ⟨by push_cast; omega, by omega, by have := k_lt k; push_cast; omega⟩)) rfl rfl
theorem off2_eq : k0_off2 k = semOff (Ring.sl 16 k.val) := vec_cons (isInt_rem k) (by simp [Ring.sl, Fin.ofNat]) vec_nil
theorem off3_eq : k0_off3 k = slotOff (Ring.sl 16 k.val) := vec_cons (isInt_rem k) (by simp [Ring.sl, Fin.ofNat]) rfl
theorem off4_eq : k0_off4 k = grpOff (Ring.bk 56 k.val) := vec_cons (isInt_row k) (by rw [Ring.bk_val (k_lt k)]) rfl
theorem off5_eq : k0_off5 k = slotOff (Ring.sl 16 k.val) := vec_cons (indexCast (isInt_rem k)) (by simp [Ring.sl, Fin.ofNat]) rfl
theorem off6_eq : k0_off6 k = ![0, 256 * k.val] :=
  (congrArg (fun y : Fin 1 → Nat => (Matrix.vecCons 0 y : Fin 2 → Nat)) (vec_cons (indexCast (isInt_row k)) rfl vec_nil : (![_] : Fin 1 → Nat) = ![256 * k.val]))
theorem off7_eq : k0_off7 k = semOff (Ring.sl 16 k.val) := vec_cons (isInt_rem k) (by simp [Ring.sl, Fin.ofNat]) vec_nil
theorem off8_eq : k0_off8 k = slotOff (Ring.sl 16 k.val) := vec_cons (isInt_rem k) (by simp [Ring.sl, Fin.ofNat]) rfl
theorem off9_eq (hk : k.val + 16 < 56) : k0_off9 k = grpOff (Ring.bk 56 (k.val + 16)) := vec_cons (isInt_nextrow k) (by rw [Ring.bk_val hk]) rfl
/-- The loop issues a further block exactly while one is left. -/
theorem cond_iff : k0_cond1 k = 1#1 ↔ k.val + 16 < 56 := by
  have h : ∀ j : Fin 56, k0_cond1 (j.cast trips_eq.symm) = 1#1 ↔ j.val + 16 < 56 := by decide
  exact h (k.cast trips_eq)

instance : ClosedOff (k0_off5 k) := ⟨slotOff (Ring.sl 16 k.val), off5_eq k⟩
instance : ClosedOff (k0_off6 k) := ⟨![0, 256 * k.val], off6_eq k⟩
instance : ClosedOff (k0_off1 k 0#32) := ⟨![2 * k.val, 0], off1_eq0 k⟩
instance : ClosedOff (k0_off1 k 1#32) := ⟨![2 * k.val + 1, 0], off1_eq1 k⟩

end Chain

/-! ### The canonical-name equations: the body's slices are `csm`, `rslot`, `grp` -/

section Canon

theorem csm_congr {off : Fin 1 → Nat} {s : Fin 16} (e : off = semOff s) (hh) :
    (cc0_scratch8.slice (Rect.unit (s := S16) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 16} (e : off = slotOff s) (hh hs) :
    (bufM.slice (Rect.unit (s := S16x256x4096) off S1x256x4096.size hh) hs).squeeze S256x4096 squeezes_S1x256x4096_S256x4096 = rslot s :=
  congrArg (fun M : Memref sig .tc .vmem S1x256x4096 .fp8e4m3 => M.squeeze S256x4096 squeezes_S1x256x4096_S256x4096) (Memref.slice_unit_congr _ e _ _ _ _)
theorem grp_congr {off : Fin 2 → Nat} {b : Fin 56} (e : off = grpOff b) (hh hs) :
    wM.slice (Rect.unit (s := S14336x4096) off S256x4096.size hh) hs = grp b := Memref.slice_unit_congr _ e _ _ _ (fun _ => rfl)

variable (k : Fin k0_t1_loop.trips)

/-- Trip `k`: cell and slot `k % 16`, block `k` waited, block `k + 16` issued. -/
@[sl_canon] theorem semK (hh) : (cc0_scratch8.slice (Rect.unit (s := S16) (k0_off2 k) S1.size hh)).squeeze S_ squeezes_S1_S_ = csm (Ring.sl 16 k.val) := csm_congr (off2_eq k) _
@[sl_canon] theorem semK' (hh) : (cc0_scratch8.slice (Rect.unit (s := S16) (k0_off7 k) S1.size hh)).squeeze S_ squeezes_S1_S_ = csm (Ring.sl 16 k.val) := csm_congr (off7_eq k) _
@[sl_canon] theorem slotK (hh hs) : (bufM.slice (Rect.unit (s := S16x256x4096) (k0_off3 k) S1x256x4096.size hh) hs).squeeze S256x4096 squeezes_S1x256x4096_S256x4096 = rslot (Ring.sl 16 k.val) := rslot_congr (off3_eq k) _ _
@[sl_canon] theorem slotK' (hh hs) : (bufM.slice (Rect.unit (s := S16x256x4096) (k0_off8 k) S1x256x4096.size hh) hs).squeeze S256x4096 squeezes_S1x256x4096_S256x4096 = rslot (Ring.sl 16 k.val) := rslot_congr (off8_eq k) _ _
@[sl_canon] theorem grpW (hh hs) : wM.slice (Rect.unit (s := S14336x4096) (k0_off4 k) S256x4096.size hh) hs = grp (Ring.bk 56 k.val) := grp_congr (off4_eq k) _ _
@[sl_canon] theorem grpI (hk : k.val + 16 < 56) (hh hs) : wM.slice (Rect.unit (s := S14336x4096) (k0_off9 k) S256x4096.size hh) hs = grp (Ring.bk 56 (k.val + 16)) := grp_congr (off9_eq k hk) _ _

end Canon

/-! ## The pieces: a block home, a slot held, a slot's cell, a slot in flight -/

section Pieces
variable (c : Dev nD) (XA : Buf (Elt F) (wM.view.loc (c : Thread nD τ)))

abbrev cellP (s : Fin 16) : sProp 𝕄 := semVal ((c : Thread nD τ), SemLoc.dma (csm s).sem) 0
abbrev slotP (s : Fin 16) (f : Buf (Elt F) ((rslot s).view.loc (c : Thread nD τ))) : sProp 𝕄 :=
  (rslot s).view.loc (c : Thread nD τ) ↦[(rslot s).view.set]{fullShare} f
/-- Block `b` home: held on its elements at the weight's contents. -/
abbrev homeP (b : Fin 56) : sProp 𝕄 := (grp b).view.loc (c : Thread nD τ) ↦[(grp b).view.set]{fullShare} XA
/-- Block `b`'s words as a slot's payload. -/
abbrev payload (b : Fin 56) : S256x4096.Idx → Elt F .fp8e4m3 := ReadAs.same.apply ((grp b).view.read (Elt F) XA)
/-- What block `b`'s transfer leaves in slot `s` over prior contents `f`: the block, written whole. -/
abbrev landed (s : Fin 16) (b : Fin 56) (f : Buf (Elt F) ((rslot s).view.loc (c : Thread nD τ))) : Buf (Elt F) ((rslot s).view.loc (c : Thread nD τ)) :=
  (rslot s).view.writes (Elt F) f [⟨Rect.whole S256x4096, payload c XA b⟩]
/-- The units a block's transfer moves on its cell. -/
abbrev NN (s : Fin 16) : ℕ := 32768
/-- Slot `s` in flight with block `b`, issued over `f`. -/
abbrev flightP (s : Fin 16) (b : Fin 56) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)

/-- The ring's role `n` (the slot that serves block `n`): in flight while block `n` exists, else free. -/
def role (n : ℕ) : sProp 𝕄 :=
  if n < 56 then iprop(∃ f, flightP c XA (Ring.sl 16 n) (Ring.bk 56 n) f)
  else iprop(cellP c (Ring.sl 16 n) ∗ ∃ f, slotP c (Ring.sl 16 n) f)
theorem role_flight {n : ℕ} (h : n < 56) : role c XA n = iprop(∃ f, flightP c XA (Ring.sl 16 n) (Ring.bk 56 n) f) := if_pos h
theorem role_free {n : ℕ} (h : ¬n < 56) : role c XA n = iprop(cellP c (Ring.sl 16 n) ∗ ∃ f, slotP c (Ring.sl 16 n) f) := if_neg h

/-- The roles before trip `k`: role `k` apart. -/
theorem roles_here (k : ℕ) : bigSep (Finset.Ico k (k + 16)) (role c XA) = iprop(role c XA k ∗ bigSep (Finset.Ico (k + 1) (k + 16)) (role c XA)) := by
  rw [Ring.Ico_eq_insert (show k < k + 16 by omega), bigSep_insert (by simp)]; rfl
/-- The roles before trip `k + 1`: the new role `k + 16` beside the same rest. -/
theorem roles_next (k : ℕ) : bigSep (Finset.Ico (k + 1) (k + 1 + 16)) (role c XA) = iprop(role c XA (k + 16) ∗ bigSep (Finset.Ico (k + 1) (k + 16)) (role c XA)) := by
  have e : Finset.Ico (k + 1) (k + 1 + 16) = insert (k + 16) (Finset.Ico (k + 1) (k + 16)) := by
    ext x; simp only [Finset.mem_Ico, Finset.mem_insert]; omega
  rw [e, bigSep_insert (by simp)]; rfl

/-- Trip `k`'s homes: block `k + 16` (about to go out) beside the rest. -/
theorem homes_here (k : ℕ) (hk : k + 16 < 56) :
    bigSep (Ring.homeSet 16 k) (homeP c XA) = iprop(homeP c XA (Ring.bk 56 (k + 16)) ∗ bigSep ((Ring.homeSet 16 k).erase (Ring.bk 56 (k + 16))) (homeP c XA)) := by
  conv_lhs => rw [Ring.homeSet_out 16 k hk, bigSep_insert (Ring.bkL_not_mem_erase 16 k)]
  rfl
/-- Trip `k + 1`'s homes: block `k` (just back) beside that rest. -/
theorem homes_next (k : ℕ) (hk : k + 16 < 56) :
    bigSep (Ring.homeSet 16 (k + 1)) (homeP c XA) = iprop(homeP c XA (Ring.bk 56 k) ∗ bigSep ((Ring.homeSet 16 k).erase (Ring.bk 56 (k + 16))) (homeP c XA)) := by
  conv_lhs => rw [Ring.homeSet_succ 16 k hk, bigSep_insert (Ring.bk_not_mem_erase 16 k (by omega) (by decide))]
  rfl
/-- The same once no further block goes out. -/
theorem homes_next_tail (k : ℕ) (hk : ¬k + 16 < 56) (h56 : k < 56) :
    bigSep (Ring.homeSet 16 (k + 1)) (homeP c XA) = iprop(homeP c XA (Ring.bk 56 k) ∗ bigSep (Ring.homeSet 16 k) (homeP c XA)) := by
  conv_lhs => rw [Ring.homeSet_succ_tail 16 k (by omega) h56, bigSep_insert (Ring.bk_not_mem_homeSet 16 k h56 (by decide))]
  rfl

/-- The flight a trip issues, as the executor states it: into the slot as the previous block's transfer left it, the
    new payload consed on. -/
theorem flightP_after (s : Fin 16) (b b' : Fin 56) :
    flightP c XA s b' ((rslot s).view.writes (Elt F) (rslot s).view.junk [⟨Rect.whole S256x4096, payload c XA b⟩])
      = Transfers.Flight countersEmb (c : Thread nD τ) (SemLoc.dma (csm s).sem) () 32768
          iprop(((rslot s).view.loc (c : Thread nD τ) ↦[(rslot s).view.set]{fullShare}
                  (rslot s).view.writes (Elt F) (rslot s).view.junk [⟨Rect.whole S256x4096, payload c XA b'⟩, ⟨Rect.whole S256x4096, payload c XA b⟩])
                ∗ homeP c XA b') := by
  simp only [flightP, landed, slotP, NN, View.writes]

end Pieces

end Cert.Proof.IdealBody

end
-- ==== Proof.IdealTrip.lean ====
/-
  One trip of the kernel's loop at a symbolic trip, and the loop's invariant.
-/
module

public import proofs.«01_k».proof.Proof.IdealNames

@[expose] public section

noncomputable section

namespace Cert.Proof.IdealBody

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev xdM : Memref sig .tc .vmem S24x4096 .f32 := Memref.whole cc0_scratch5
abbrev wsxM : Memref sig .tc .vmem S112x4096 .f32 := Memref.whole cc0_scratch6
abbrev yM : Memref sig .tc .vmem S24x14336 .bf16 := Memref.whole cc0_scratch7

section Trip
variable (c : Dev nD) (XA : Buf (Elt F) (wM.view.loc (c : Thread nD τ)))
  (XD : Buf (Elt F) (xdM.view.loc (c : Thread nD τ))) (WS : Buf (Elt F) (wsxM.view.loc (c : Thread nD τ)))

abbrev xdP : sProp 𝕄 := xdM.view.loc (c : Thread nD τ) ↦[xdM.view.set]{fullShare} XD
abbrev wsxP : sProp 𝕄 := wsxM.view.loc (c : Thread nD τ) ↦[wsxM.view.set]{fullShare} WS
abbrev yP (f : Buf (Elt F) (yM.view.loc (c : Thread nD τ))) : sProp 𝕄 := yM.view.loc (c : Thread nD τ) ↦[yM.view.set]{fullShare} f

/-- The resources before trip `k`, `y`'s buffer at `f`. -/
def resAt (k : ℕ) (f : Buf (Elt F) (yM.view.loc (c : Thread nD τ))) : sProp 𝕄 :=
  iprop(xdP c XD ∗ wsxP c WS ∗ yP c f ∗ (∃ W, owes (c : Thread nD τ) 0 W)
    ∗ bigSep (Ring.homeSet 16 k) (homeP c XA) ∗ bigSep (Finset.Ico k (k + 16)) (role c XA))

/-- Columns `256 k` to `256 k + 255` of `y`. -/
abbrev RY (k : Fin k0_t1_loop.trips) : Rect S24x14336 := Rect.unit (s := S24x14336) (k0_off6 k) S24x256.size (k0_off6_inb k)

abbrev tripG (k : Fin k0_t1_loop.trips) : Prog (TpuEff nD τ sig (Elt F) Λ₀ .tc) Unit :=
  k0_t1_body (F := F) (Memref.whole main_v0) (Memref.isWhole_whole _) wM (Memref.isWhole_whole _) (Memref.whole main_v1) (Memref.isWhole_whole _)
    (Memref.whole main_v2_0) (Memref.isWhole_whole _) (Memref.whole main_v2_1) (Memref.isWhole_whole _) (Memref.whole main_v2_2) (Memref.isWhole_whole _)
    (Memref.whole cc0_scratch0) (Memref.isWhole_whole _) (Memref.whole cc0_scratch1) (Memref.isWhole_whole _) bufM (Memref.isWhole_whole _)
    (Memref.whole cc0_scratch3) (Memref.isWhole_whole _) (Memref.whole cc0_scratch4) (Memref.isWhole_whole _) xdM (Memref.isWhole_whole _)
    wsxM (Memref.isWhole_whole _) yM (Memref.isWhole_whole _) cc0_scratch8 cc0_scratch9 k ()

/-- What trip `k` stores: its columns of `y`, from the two rows of scales and block `k` of the weight. -/
def tripPay (k : Fin k0_t1_loop.trips) : FVec F S24x256 .bf16 :=
  k0_pay2 (xdM.view.readAt (Elt F) (Rect.unit (s := S24x4096) ![0, 0] S24x4096.size inb_S24x4096_S24x4096_0_0).toLoadRect XD)
    (wsxM.view.readAt (Elt F) (Rect.unit (s := S112x4096) (k0_off1 k 0#32) S1x4096.size (k0_off1_inb k 0)).toLoadRect WS)
    (wsxM.view.readAt (Elt F) (Rect.unit (s := S112x4096) (k0_off1 k 1#32) S1x4096.size (k0_off1_inb k 1)).toLoadRect WS)
    (bufM.view.readAt (Elt F) (Rect.unit (s := S16x256x4096) (k0_off5 k) S1x256x4096.size (k0_off5_inb k)).toLoadRect
      (landed c XA (Ring.sl 16 k.val) (Ring.bk 56 k.val) (rslot (Ring.sl 16 k.val)).view.junk))

/-- One trip at a symbolic `k`: wait block `k` in slot `k % 16`, store its columns of `y`, and issue block `k + 16` into
    the slot while there is one. -/
theorem tripRun (k : Fin k0_t1_loop.trips) (f : Buf (Elt F) (yM.view.loc (c : Thread nD τ))) :
    resAt c XA XD WS k f ⊢ wp frame (wpE (defs₀ (F := F)) 𝒱₀ (c : Thread nD τ) none) Set.univ (tripG k)
        (fun _ => resAt c XA XD WS (k.val + 1) (yM.view.writes (Elt F) f [⟨RY k, tripPay c XA XD WS k⟩])) := by
  have hk := k_lt k
  by_cases h : k.val + 16 < 56
  · have hc : k0_cond1 k = 1#1 := (cond_iff k).2 h
    unfold resAt
    rw [homes_here c XA k.val h, homes_next c XA k.val h, roles_here, roles_next, role_flight c XA hk, role_flight c XA h, Ring.sl_add]
    iintro ⟨HX, HS, HY, ⟨%W, HW⟩, ⟨Hg, Hrest⟩, ⟨%f0, HF⟩, Hroles⟩
    dsimp only [tripG]
    sl_unfold [k0_t1_body]
    sl_exec
    sl_step
    isplitl [HX]; · iexact HX
    isplitl [HS]; · iexact HS
    isplitl [HY]; · iexact HY
    isplitl [HW]; · iexists _; iexact HW
    isplitl [HF_src Hrest]
    · isplitl [HF_src]; · iexact HF_src
      iexact Hrest
    isplitl [HF]
    · iexists ((rslot (Ring.sl 16 k.val)).view.writes (Elt F) (rslot (Ring.sl 16 k.val)).view.junk [⟨Rect.whole S256x4096, payload c XA (Ring.bk 56 k.val)⟩])
      irw [flightP_after]
      iexact HF
    iexact Hroles
  · have hc : ¬k0_cond1 k = 1#1 := fun e => h ((cond_iff k).1 e)
    unfold resAt
    rw [homes_next_tail c XA k.val h hk, roles_here, roles_next, role_flight c XA hk, role_free c XA h, Ring.sl_add]
    iintro ⟨HX, HS, HY, ⟨%W, HW⟩, Hrest, ⟨%f0, HF⟩, Hroles⟩
    dsimp only [tripG]
    sl_unfold [k0_t1_body]
    sl_exec
    sl_step
    isplitl [HX]; · iexact HX
    isplitl [HS]; · iexact HS
    isplitl [HY]; · iexact HY
    isplitl [HW]; · iexists _; iexact HW
    isplitl [HF_src Hrest]
    · isplitl [HF_src]; · iexact HF_src
      iexact Hrest
    isplitl [HF HF_dst]
    · isplitl [HF]; · iexact HF
      iexists _; iexact HF_dst
    iexact Hroles

/-- `y`'s buffer before trip `k`, from its contents `y0` at the loop's entry: each trip's columns written in turn. -/
def yAcc (y0 : Buf (Elt F) (yM.view.loc (c : Thread nD τ))) : ℕ → Buf (Elt F) (yM.view.loc (c : Thread nD τ))
  | 0 => y0
  | k + 1 => if h : k < k0_t1_loop.trips then yM.view.writes (Elt F) (yAcc y0 k) [⟨RY ⟨k, h⟩, tripPay c XA XD WS ⟨k, h⟩⟩] else yAcc y0 k

set_option warn.classDefReducibility false in
/-- The loop's invariant: the ring at trip `k`, `y`'s buffer at the trips before `k`. -/
def loopInv (y0 : Buf (Elt F) (yM.view.loc (c : Thread nD τ))) :
    LoopInvTy_k0_t1 (F := F) Unit ℕ (UU nD τ) ℕ 𝒱₀ c none Set.univ (Memref.whole main_v0) (Memref.isWhole_whole _) wM (Memref.isWhole_whole _) (Memref.whole main_v1) (Memref.isWhole_whole _)
    (Memref.whole main_v2_0) (Memref.isWhole_whole _) (Memref.whole main_v2_1) (Memref.isWhole_whole _) (Memref.whole main_v2_2) (Memref.isWhole_whole _)
    (Memref.whole cc0_scratch0) (Memref.isWhole_whole _) (Memref.whole cc0_scratch1) (Memref.isWhole_whole _) bufM (Memref.isWhole_whole _)
    (Memref.whole cc0_scratch3) (Memref.isWhole_whole _) (Memref.whole cc0_scratch4) (Memref.isWhole_whole _) xdM (Memref.isWhole_whole _)
    wsxM (Memref.isWhole_whole _) yM (Memref.isWhole_whole _) cc0_scratch8 cc0_scratch9 where
  inv k _ := resAt c XA XD WS k (yAcc c XA XD WS y0 k)
  step k _ := by
    have e : yAcc c XA XD WS y0 (k.val + 1) = yM.view.writes (Elt F) (yAcc c XA XD WS y0 k) [⟨RY k, tripPay c XA XD WS k⟩] := by
      rw [yAcc, dif_pos k.isLt]
    rw [e]
    exact tripRun c XA XD WS k _

end Trip

end Cert.Proof.IdealBody

end
-- ==== Proof.IdealQuant.lean ====
/-
  What the kernel's prologue leaves in its buffers: every group of 128 activations quantised alike, the weight's
  scales spread along the lanes of their group.
-/
module

public import proofs.«01_k».proof.Proof.IdealTrip
public import Idealize.ShloMosaic.Lib.Pipeline.ReadBack
public import Idealize.ShloMosaic.Lib.Pipeline.Value

@[expose] public section

noncomputable section

namespace Cert.Proof.IdealBody

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Whole buffers -/

omit [FloatOps F] in
/-- A whole buffer written over at once holds what was written. -/
theorem whole_writes (c : Dev nD) (b : Ref sig .tc) (f : Buf (Elt F) ((Memref.whole b).view.loc (c : Thread nD τ))) (P : b.ty.shape.Idx → Elt F b.ty.elt) :
    (Memref.whole b).view.writes (Elt F) f [⟨Rect.whole b.ty.shape, P⟩] = P := by
  show View.read (Elt F) (View.whole b) ((View.whole b).writes (Elt F) f [⟨Rect.whole b.ty.shape, P⟩]) = P
  funext y
  have h := View.read_writes_cons_emb (View.whole b) f (Rect.whole b.ty.shape) P [] y
  rwa [Rect.emb_whole_apply] at h

/-- A whole buffer written piece by piece, the pieces covering it and each a part of `G`, holds `G`. -/
theorem whole_pieces (b : Ref sig .tc) (f : (Memref.whole b).view.ty.Contents (Elt F)) (L : List (View.Piece (Elt F) b.ty.shape b.ty.elt)) (G : b.ty.shape.Idx → Elt F b.ty.elt)
    (h : ∀ p ∈ L, ∀ x : p.1.shape.Idx, p.2 x = G (p.1.emb x)) (hc : ∀ y, ∃ p ∈ L, y ∈ p.1.set) :
    (Memref.whole b).view.writes (Elt F) f L = G :=
  funext fun y => View.read_writes_apply_of_pieces (v := View.whole b) (f := f) G L h y (hc y)

/-! ## One group of the activations -/

/-- A group's scale: two to the exponent of its greatest magnitude over 448, plus one. -/
def gScale (x : Vec F S24x128 .bf16) : FVec F S24x1 .f32 := k0_pay45 (k0_pay41 x) (k0_pay42 x) k0_pay43
/-- A group's codes. -/
def gCodes (x : Vec F S24x128 .bf16) : FVec F S24x128 .fp8e4m3 := k0_pay47 (k0_pay40 x) (k0_pay41 x) (k0_pay42 x) k0_pay43
/-- A group's activations read back from its codes and scale. -/
def gXd (x : Vec F S24x128 .bf16) : FVec F S24x128 .f32 := k0_pay48 (k0_pay40 x) (k0_pay41 x) (k0_pay42 x) k0_pay43
/-- A group's scale put in its lane of the scales. -/
def gSel (g : ℕ) (prev : FVec F S24x32 .f32) (s : FVec F S24x1 .f32) : FVec F S24x32 .f32 :=
  select (cmpi .eq (iota .tc S24x32 32 [1] iota_S24x32_d1_w32) (broadcast S24x32 (BitVec.ofNat 32 g)))
    (broadcastTo S24x32 (shapeCast S24x1 s shapeCasts_S24x1_S24x1) broadcasts_S24x1_S24x32) prev

/-! ## The groups' tiles -/

theorem inbT (n : ℕ) : ∀ a, (![0, 128 * (n % 32)] : Fin 2 → ℕ) a + S24x128.size a ≤ S24x4096.size a := by
  intro a; fin_cases a
  · show 0 + 24 ≤ 24; omega
  · show 128 * (n % 32) + 128 ≤ 4096; omega
theorem inbS (n : ℕ) : ∀ a, (![0, 128 * (n % 32)] : Fin 2 → ℕ) a + S112x128.size a ≤ S112x4096.size a := by
  intro a; fin_cases a
  · show 0 + 112 ≤ 112; omega
  · show 128 * (n % 32) + 128 ≤ 4096; omega
/-- Group `n`'s tile: columns `128 n` to `128 n + 127`. -/
abbrev tile (n : ℕ) : Rect S24x4096 := Rect.unit (s := S24x4096) ![0, 128 * (n % 32)] S24x128.size (inbT n)
abbrev tileS (n : ℕ) : Rect S112x4096 := Rect.unit (s := S112x4096) ![0, 128 * (n % 32)] S112x128.size (inbS n)

/-- Group `n` of the activations. -/
def blk {α : Type} (X : S24x4096.Idx → α) (n : ℕ) : S24x128.Idx → α := fun i => X ((tile n).emb i)
/-- A column's place in its group. -/
def locT (y : S24x4096.Idx) : S24x128.Idx := fun a => ⟨(![(y 0).val, (y 1).val % 128] : Fin 2 → ℕ) a, by
  fin_cases a
  · exact (y 0).isLt
  · exact Nat.mod_lt _ (by decide : (0 : ℕ) < 128)⟩
/-- A column's group. -/
abbrev grpT (y : S24x4096.Idx) : ℕ := (y 1).val / 128

theorem tile_emb0 (n : ℕ) (x : S24x128.Idx) : ((tile n).emb x 0).val = (x 0).val := by
  rw [Rect.emb_apply]; show 0 + 1 * (x 0).val = _; omega
theorem tile_emb1 (n : ℕ) (x : S24x128.Idx) : ((tile n).emb x 1).val = 128 * (n % 32) + (x 1).val := by
  rw [Rect.emb_apply]; show 128 * (n % 32) + 1 * (x 1).val = _; omega
theorem locT_emb (n : ℕ) (x : S24x128.Idx) : locT ((tile n).emb x) = x := by
  funext a; apply Fin.ext
  have h1 : (x 1).val < 128 := (x 1).isLt
  fin_cases a
  · exact tile_emb0 n x
  · show ((tile n).emb x 1).val % 128 = (x 1).val
    rw [tile_emb1]; omega
theorem grpT_emb (n : ℕ) (x : S24x128.Idx) : grpT ((tile n).emb x) = n % 32 := by
  have h1 : (x 1).val < 128 := (x 1).isLt
  show ((tile n).emb x 1).val / 128 = _
  rw [tile_emb1]; omega
theorem blk_mod {α : Type} (X : S24x4096.Idx → α) (n : ℕ) : blk X (n % 32) = blk X n := by
  funext i; unfold blk; congr 1; funext a; apply Fin.ext
  fin_cases a
  · exact (tile_emb0 _ i).trans (tile_emb0 _ i).symm
  · exact (tile_emb1 _ i).trans ((show 128 * (n % 32 % 32) + (i 1).val = 128 * (n % 32) + (i 1).val by rw [Nat.mod_mod]).trans (tile_emb1 _ i).symm)

/-- The groups, as the kernel stores them (the last first). -/
abbrev groups : List ℕ := [31, 30, 29, 28, 27, 26, 25, 24, 23, 22, 21, 20, 19, 18, 17, 16, 15, 14, 13, 12, 11, 10, 9, 8, 7, 6, 5, 4, 3, 2, 1, 0]
theorem mem_groups {n : ℕ} (h : n < 32) : n ∈ groups := by
  have : ∀ m : Fin 32, m.val ∈ groups := by decide
  exact this ⟨n, h⟩

/-- A function of every group, laid over all the columns. -/
def spread {α β : Type} (f : (S24x128.Idx → α) → S24x128.Idx → β) (X : S24x4096.Idx → α) : S24x4096.Idx → β :=
  fun y => f (blk X (grpT y)) (locT y)
theorem spread_emb {α β : Type} (f : (S24x128.Idx → α) → S24x128.Idx → β) (X : S24x4096.Idx → α) (n : ℕ) (x : S24x128.Idx) :
    spread f X ((tile n).emb x) = f (blk X n) x := by
  unfold spread; rw [grpT_emb, locT_emb, blk_mod]
theorem tile_cover (y : S24x4096.Idx) : y ∈ (tile (grpT y)).set := by
  have h0 : (y 0).val < 24 := (y 0).isLt
  have h1 : (y 1).val < 4096 := (y 1).isLt
  rw [Rect.mem_set_unit]; intro a
  have e : (y 1).val / 128 % 32 = (y 1).val / 128 := Nat.mod_eq_of_lt (by omega)
  fin_cases a
  · show 0 ≤ (y 0).val ∧ (y 0).val < 0 + 24; omega
  · show 128 * ((y 1).val / 128 % 32) ≤ (y 1).val ∧ (y 1).val < 128 * ((y 1).val / 128 % 32) + 128
    rw [e]; omega

section Run
variable (c : Dev nD)

/-- Group `n` as the body loads it from its copy of the activations. -/
abbrev ldX (XV : Buf (Elt F) ((Memref.whole main_v0).view.loc (c : Thread nD τ))) (n : ℕ) : Vec F S24x128 .bf16 :=
  (Memref.whole cc0_scratch0).view.readCov (Val := Elt F) [⟨Rect.whole cc0_scratch0.ty.shape, ReadAs.same.apply (View.read (Elt F) (Memref.whole main_v0).view XV)⟩] (tile n).toLoadRect
theorem ldX_eq (XV : Buf (Elt F) ((Memref.whole main_v0).view.loc (c : Thread nD τ))) (n : ℕ) : ldX c XV n = blk (α := Elt F .bf16) XV n := by
  unfold ldX
  rw [View.readCov_eq_canon']
  funext i
  have h := View.canon_cons_emb (Val := Elt F) (Rect.whole cc0_scratch0.ty.shape) (ReadAs.same.apply (View.read (Elt F) (Memref.whole main_v0).view XV)) [] ((tile n).emb i)
  rw [Rect.emb_whole_apply] at h
  exact h

/-- The codes' stores. -/
abbrev codeList (XV : Buf (Elt F) ((Memref.whole main_v0).view.loc (c : Thread nD τ))) : List (View.Piece (Elt F) S24x4096 .fp8e4m3) :=
  groups.map fun n => ⟨tile n, gCodes (ldX c XV n)⟩
/-- The read-back activations' stores. -/
abbrev xdList (XV : Buf (Elt F) ((Memref.whole main_v0).view.loc (c : Thread nD τ))) : List (View.Piece (Elt F) S24x4096 .f32) :=
  groups.map fun n => ⟨tile n, gXd (ldX c XV n)⟩
/-- The scales after the first `n` groups. -/
def scaleAcc (XV : Buf (Elt F) ((Memref.whole main_v0).view.loc (c : Thread nD τ))) : ℕ → FVec F S24x32 .f32
  | 0 => k0_pay39
  | n + 1 => gSel n (scaleAcc XV n) (gScale (ldX c XV n))

/-- The codes. -/
def codesV (X : S24x4096.Idx → Elt F .bf16) : S24x4096.Idx → Elt F .fp8e4m3 := spread (fun x => gCodes (F := F) x) X
/-- The activations read back. -/
def xdV (X : S24x4096.Idx → Elt F .bf16) : S24x4096.Idx → Elt F .f32 := spread (fun x => gXd (F := F) x) X

theorem groups_cover {e : EltTy} (P : (n : ℕ) → (tile n).shape.Idx → Elt F e) (y : S24x4096.Idx) :
    ∃ p ∈ (groups.map fun n => (⟨tile n, P n⟩ : View.Piece (Elt F) S24x4096 e)), y ∈ p.1.set :=
  ⟨_, List.mem_map.2 ⟨grpT y, mem_groups (by have h1 : (y 1).val < 4096 := (y 1).isLt; show (y 1).val / 128 < 32; omega), rfl⟩, tile_cover y⟩

theorem codes_writes (XV) (f : (Memref.whole cc0_scratch3).view.ty.Contents (Elt F)) :
    (Memref.whole cc0_scratch3).view.writes (Elt F) f (codeList c XV) = codesV (F := F) XV :=
  whole_pieces cc0_scratch3 f (codeList c XV) (codesV (F := F) XV)
    (by
      intro p hp x
      obtain ⟨n, -, rfl⟩ := List.mem_map.1 hp
      exact ((spread_emb (fun x => gCodes (F := F) x) XV n x).trans (by rw [← ldX_eq])).symm)
    (groups_cover _)
theorem xd_writes (XV) (f : (Memref.whole cc0_scratch5).view.ty.Contents (Elt F)) :
    (Memref.whole cc0_scratch5).view.writes (Elt F) f (xdList c XV) = xdV (F := F) XV :=
  whole_pieces cc0_scratch5 f (xdList c XV) (xdV (F := F) XV)
    (by
      intro p hp x
      obtain ⟨n, -, rfl⟩ := List.mem_map.1 hp
      exact ((spread_emb (fun x => gXd (F := F) x) XV n x).trans (by rw [← ldX_eq])).symm)
    (groups_cover _)

/-! ## The weight's scales -/

/-- The weight's scales as the body loads them. -/
abbrev ldW (WV : Buf (Elt F) ((Memref.whole main_v1).view.loc (c : Thread nD τ))) : Vec F S32x112 .f32 :=
  (Memref.whole cc0_scratch1).view.readCov (Val := Elt F) [⟨Rect.whole cc0_scratch1.ty.shape, ReadAs.same.apply (View.read (Elt F) (Memref.whole main_v1).view WV)⟩]
    (Rect.unit (s := S32x112) ![0, 0] S32x112.size inb_S32x112_S32x112_0_0).toLoadRect
theorem ldW_eq (WV : Buf (Elt F) ((Memref.whole main_v1).view.loc (c : Thread nD τ))) : ldW c WV = WV := by
  unfold ldW
  rw [View.readCov_eq_canon']
  funext i
  have h := View.canon_cons_emb (Val := Elt F) (Rect.whole cc0_scratch1.ty.shape) (ReadAs.same.apply (View.read (Elt F) (Memref.whole main_v1).view WV)) []
    ((Rect.unit (s := S32x112) ![0, 0] S32x112.size inb_S32x112_S32x112_0_0).emb i)
  rw [Rect.emb_whole_apply] at h
  refine h.trans ?_
  show WV ((Rect.unit (s := S32x112) ![0, 0] S32x112.size inb_S32x112_S32x112_0_0).emb i) = WV i
  congr 1; funext a; apply Fin.ext; refine (Rect.emb_apply _ i a).trans ?_; fin_cases a
  · show 0 + 1 * (i 0).val = (i 0).val; omega
  · show 0 + 1 * (i 1).val = (i 1).val; omega

theorem sliceOK (n : ℕ) : S112x32.Slices ![0, n % 32] S112x1 :=
  ⟨rfl, by
    intro a; fin_cases a
    · show 0 + 112 ≤ 112; omega
    · show n % 32 + 1 ≤ 32; omega⟩
/-- Group `n`'s scales, the same on all its lanes. -/
def slab (w : FVec F S112x32 .f32) (n : ℕ) : FVec F S112x128 .f32 :=
  shapeCast S112x128 (broadcastTo S112x128 (shapeCast S112x1 (extractStridedSlice S112x1 ![0, n % 32] w (sliceOK n)) shapeCasts_S112x1_S112x1) broadcasts_S112x1_S112x128) shapeCasts_S112x128_S112x128
/-- Their stores. -/
abbrev wsxList (WV : Buf (Elt F) ((Memref.whole main_v1).view.loc (c : Thread nD τ))) : List (View.Piece (Elt F) S112x4096 .f32) :=
  groups.map fun n => ⟨tileS n, slab (k0_pay3 (ldW c WV)) n⟩
/-- A lane's scale. -/
def ixS (y : S112x4096.Idx) : S112x32.Idx := fun a => ⟨(![(y 0).val, (y 1).val / 128] : Fin 2 → ℕ) a, by
  fin_cases a
  · exact (y 0).isLt
  · have h1 : (y 1).val < 4096 := (y 1).isLt
    show (y 1).val / 128 < 32; omega⟩
/-- The weight's scales spread along the lanes. -/
def wsxV (WV : S32x112.Idx → Elt F .f32) : S112x4096.Idx → Elt F .f32 := fun y => k0_pay3 (F := F) WV (ixS y)

theorem tileS_emb0 (n : ℕ) (x : S112x128.Idx) : ((tileS n).emb x 0).val = (x 0).val := by
  rw [Rect.emb_apply]; show 0 + 1 * (x 0).val = _; omega
theorem tileS_emb1 (n : ℕ) (x : S112x128.Idx) : ((tileS n).emb x 1).val = 128 * (n % 32) + (x 1).val := by
  rw [Rect.emb_apply]; show 128 * (n % 32) + 1 * (x 1).val = _; omega

theorem slab_apply (w : FVec F S112x32 .f32) (n : ℕ) (x : S112x128.Idx) : slab w n x = w (ixS ((tileS n).emb x)) := by
  have h1 : (x 1).val < 128 := (x 1).isLt
  unfold slab
  rw [shapeCast_self, shapeCast_self]
  show w _ = w _
  congr 1; funext a; apply Fin.ext
  fin_cases a
  · show 0 + (x 0).val = ((tileS n).emb x 0).val
    rw [tileS_emb0]; omega
  · show n % 32 + 0 = ((tileS n).emb x 1).val / 128
    rw [tileS_emb1]; omega

theorem wsx_writes (WV) (f : (Memref.whole cc0_scratch6).view.ty.Contents (Elt F)) :
    (Memref.whole cc0_scratch6).view.writes (Elt F) f (wsxList c WV) = wsxV (F := F) WV :=
  whole_pieces cc0_scratch6 f (wsxList c WV) (wsxV (F := F) WV)
    (by
      intro p hp x
      obtain ⟨n, -, rfl⟩ := List.mem_map.1 hp
      refine (slab_apply (F := F) (k0_pay3 (ldW c WV)) n x).trans ?_
      rw [ldW_eq]; rfl)
    (by
      intro y
      have h0 : (y 0).val < 112 := (y 0).isLt
      have h1 : (y 1).val < 4096 := (y 1).isLt
      refine ⟨_, List.mem_map.2 ⟨(y 1).val / 128, mem_groups (by omega), rfl⟩, ?_⟩
      rw [Rect.mem_set_unit]; intro a
      have e : (y 1).val / 128 % 32 = (y 1).val / 128 := Nat.mod_eq_of_lt (by omega)
      fin_cases a
      · show 0 ≤ (y 0).val ∧ (y 0).val < 0 + 112; omega
      · show 128 * ((y 1).val / 128 % 32) ≤ (y 1).val ∧ (y 1).val < 128 * ((y 1).val / 128 % 32) + 128
        rw [e]; omega)

/-! ## The products -/

/-- A column of the products: its place in its block. -/
def locY (y : S24x14336.Idx) : S24x256.Idx := fun a => ⟨(![(y 0).val, (y 1).val % 256] : Fin 2 → ℕ) a, by
  fin_cases a
  · exact (y 0).isLt
  · exact Nat.mod_lt _ (by decide : (0 : ℕ) < 256)⟩
theorem blkY_lt (y : S24x14336.Idx) : (y 1).val / 256 < k0_t1_loop.trips := by
  have h1 : (y 1).val < 14336 := (y 1).isLt
  rw [trips_eq]; omega
/-- The products after the loop: column `j` from trip `j / 256`. -/
def yOf (XA : Buf (Elt F) (wM.view.loc (c : Thread nD τ))) (XD : Buf (Elt F) (xdM.view.loc (c : Thread nD τ))) (WS : Buf (Elt F) (wsxM.view.loc (c : Thread nD τ))) :
    S24x14336.Idx → Elt F .bf16 := fun y => tripPay c XA XD WS ⟨(y 1).val / 256, blkY_lt y⟩ (locY y)

theorem RY_emb0 (k : Fin k0_t1_loop.trips) (x : S24x256.Idx) : ((RY k).emb x 0).val = (x 0).val := by
  rw [Rect.emb_apply]; show k0_off6 k 0 + 1 * (x 0).val = _; rw [off6_eq]; show 0 + 1 * (x 0).val = _; omega
theorem RY_emb1 (k : Fin k0_t1_loop.trips) (x : S24x256.Idx) : ((RY k).emb x 1).val = 256 * k.val + (x 1).val := by
  rw [Rect.emb_apply]; show k0_off6 k 1 + 1 * (x 1).val = _; rw [off6_eq]; show 256 * k.val + 1 * (x 1).val = _; omega
theorem RY_mem (k : Fin k0_t1_loop.trips) (y : S24x14336.Idx) : y ∈ (RY k).set ↔ (y 1).val / 256 = k.val := by
  have h0 : (y 0).val < 24 := (y 0).isLt
  rw [Rect.mem_set_unit, off6_eq]
  constructor
  · intro h
    have h1 : 256 * k.val ≤ (y 1).val ∧ (y 1).val < 256 * k.val + 256 := h 1
    omega
  · intro h a; fin_cases a
    · show 0 ≤ (y 0).val ∧ (y 0).val < 0 + 24; omega
    · show 256 * k.val ≤ (y 1).val ∧ (y 1).val < 256 * k.val + 256; omega

/-- Before trip `n`, the columns of the earlier trips hold their products. -/
theorem yAcc_apply (XA : Buf (Elt F) (wM.view.loc (c : Thread nD τ))) (XD : Buf (Elt F) (xdM.view.loc (c : Thread nD τ))) (WS : Buf (Elt F) (wsxM.view.loc (c : Thread nD τ))) (y0 : Buf (Elt F) (yM.view.loc (c : Thread nD τ))) (n : ℕ) (hn : n ≤ 56) (y : S24x14336.Idx) (hy : (y 1).val / 256 < n) :
    View.read (Elt F) yM.view (yAcc c XA XD WS y0 n) y = yOf c XA XD WS y := by
  induction n with
  | zero => omega
  | succ k ih =>
    have hk : k < k0_t1_loop.trips := by rw [trips_eq]; omega
    rw [yAcc, dif_pos hk]
    by_cases h : (y 1).val / 256 = k
    · obtain ⟨x, rfl⟩ := (RY ⟨k, hk⟩).exists_idx_of_mem ((RY_mem ⟨k, hk⟩ y).2 h)
      change View.read (Elt F) yM.view _ ((RY ⟨k, hk⟩).emb x) = yOf c XA XD WS ((RY ⟨k, hk⟩).emb x)
      rw [View.read_writes_cons_emb]
      have h1 : (x 1).val < 256 := (x 1).isLt
      have e1 : ((RY ⟨k, hk⟩).emb x 1).val / 256 = k := by rw [RY_emb1]; show (256 * k + _) / 256 = k; omega
      have e2 : locY ((RY ⟨k, hk⟩).emb x) = x := by
        funext a; apply Fin.ext; fin_cases a
        · exact RY_emb0 _ x
        · show ((RY ⟨k, hk⟩).emb x 1).val % 256 = (x 1).val
          rw [RY_emb1]; show (256 * k + _) % 256 = _; omega
      unfold yOf; rw [e2, show (⟨((RY ⟨k, hk⟩).emb x 1).val / 256, blkY_lt _⟩ : Fin k0_t1_loop.trips) = ⟨k, hk⟩ from Fin.ext e1]
    · rw [View.writes_cons, View.read_slice_write_of_not_mem _ _ _ _ (by rw [Rect.map_emb_univ, RY_mem]; exact h), View.writes_nil]
      exact ih (by omega) (by omega)
theorem yAcc_last (XA : Buf (Elt F) (wM.view.loc (c : Thread nD τ))) (XD : Buf (Elt F) (xdM.view.loc (c : Thread nD τ))) (WS : Buf (Elt F) (wsxM.view.loc (c : Thread nD τ))) (y0 : Buf (Elt F) (yM.view.loc (c : Thread nD τ))) (n : ℕ) (hn : n = 56) :
    yAcc c XA XD WS y0 n = yOf c XA XD WS :=
  funext fun y => yAcc_apply c XA XD WS y0 n (by omega) y (by have h1 : (y 1).val < 14336 := (y 1).isLt; omega)

/-- The ring after the loop: every block home, every slot free, the products stored. -/
theorem resAt_last (XA : Buf (Elt F) (wM.view.loc (c : Thread nD τ))) (XD : Buf (Elt F) (xdM.view.loc (c : Thread nD τ))) (WS : Buf (Elt F) (wsxM.view.loc (c : Thread nD τ))) (y0 : Buf (Elt F) (yM.view.loc (c : Thread nD τ))) : resAt c XA XD WS k0_t1_loop.trips (yAcc c XA XD WS y0 k0_t1_loop.trips)
    = iprop(xdP c XD ∗ wsxP c WS ∗ yP c (yOf c XA XD WS) ∗ (∃ W, owes (c : Thread nD τ) 0 W)
        ∗ bigSep Finset.univ (homeP c XA) ∗ bigSep (Finset.Ico 56 (56 + 16)) (role c XA)) := by
  unfold resAt
  rw [yAcc_last c XA XD WS y0 _ trips_eq, trips_eq, Ring.homeSet_last 16 56 le_rfl]

/-- The scales after the first `n` groups, of the activations. -/
def scaleN (X : S24x4096.Idx → Elt F .bf16) : ℕ → FVec F S24x32 .f32
  | 0 => k0_pay39
  | n + 1 => gSel n (scaleN X n) (gScale (F := F) (blk X n))
theorem scaleAcc_eq (XV : Buf (Elt F) ((Memref.whole main_v0).view.loc (c : Thread nD τ))) (n : ℕ) : scaleAcc c XV n = scaleN (F := F) XV n := by
  induction n with
  | zero => rfl
  | succ n ih => rw [scaleAcc, scaleN, ih, ldX_eq]
/-- The scales. -/
def scalesV (X : S24x4096.Idx → Elt F .bf16) : S24x32.Idx → Elt F .f32 := scaleN (F := F) X 32
/-- The products. -/
def yV (XA : Buf (Elt F) (wM.view.loc (c : Thread nD τ))) (X : S24x4096.Idx → Elt F .bf16) (WV : S32x112.Idx → Elt F .f32) : S24x14336.Idx → Elt F .bf16 :=
  yOf c XA (xdV (F := F) X) (wsxV (F := F) WV)

theorem scales_writes (XV : Buf (Elt F) ((Memref.whole main_v0).view.loc (c : Thread nD τ))) (f : (Memref.whole cc0_scratch4).view.ty.Contents (Elt F)) :
    (Memref.whole cc0_scratch4).view.writes (Elt F) f
      [⟨Rect.unit (s := S24x32) ![0, 0] S24x32.size inb_S24x32_S24x32_0_0, shapeCast S24x32 (scaleAcc c XV 32) shapeCasts_S24x32_S24x32⟩] = scalesV (F := F) XV := by
  have z : ∀ x : S24x32.Idx, (Rect.unit (s := S24x32) ![0, 0] S24x32.size inb_S24x32_S24x32_0_0).emb x = x := by
    intro x; funext a; apply Fin.ext; refine (Rect.emb_apply (Rect.unit (s := S24x32) ![0, 0] S24x32.size inb_S24x32_S24x32_0_0) x a).trans ?_; fin_cases a
    · show 0 + 1 * (x 0).val = (x 0).val; omega
    · show 0 + 1 * (x 1).val = (x 1).val; omega
  refine whole_pieces cc0_scratch4 f _ (scalesV (F := F) XV) ?_ ?_
  · intro p hp x
    rw [List.mem_singleton] at hp; subst hp
    show shapeCast S24x32 (scaleAcc c XV 32) shapeCasts_S24x32_S24x32 x = scalesV (F := F) XV ((Rect.unit (s := S24x32) ![0, 0] S24x32.size inb_S24x32_S24x32_0_0).emb x)
    rw [z, shapeCast_self, scaleAcc_eq]; rfl
  · intro y
    refine ⟨_, List.mem_singleton.2 rfl, ?_⟩
    rw [Rect.mem_set_unit]; intro a
    have h0 : (y 0).val < 24 := (y 0).isLt
    have h1 : (y 1).val < 32 := (y 1).isLt
    fin_cases a
    · show 0 ≤ (y 0).val ∧ (y 0).val < 0 + 24; omega
    · show 0 ≤ (y 1).val ∧ (y 1).val < 0 + 32; omega

end Run

end Cert.Proof.IdealBody

end
-- ==== Proof.IdealBody.lean ====
/-
  The kernel's body: the prologue's transfers, the quantisation, the loop, and the results' transfers.
-/
module

public import proofs.«01_k».proof.Proof.IdealQuant

@[expose] public section

noncomputable section

namespace Cert.Proof.IdealBody

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Lits

/-- The prologue's literal slices: slot and cell `n`, block `r / 256`. -/
theorem semLit (n : ℕ) (hn : n < 16) (hh) : (cc0_scratch8.slice (Rect.unit (s := S16) ![n] S1.size hh)).squeeze S_ squeezes_S1_S_ = csm (Ring.sl 16 n) :=
  csm_congr (by simp [semOff, Ring.sl, Fin.ofNat, Nat.mod_eq_of_lt hn]) _
theorem slotLit (n : ℕ) (hn : n < 16) (hh hs) : (bufM.slice (Rect.unit (s := S16x256x4096) ![n, 0, 0] S1x256x4096.size hh) hs).squeeze S256x4096 squeezes_S1x256x4096_S256x4096 = rslot (Ring.sl 16 n) :=
  rslot_congr (by simp [slotOff, Ring.sl, Fin.ofNat, Nat.mod_eq_of_lt hn]) _ _
theorem grpLit (r : ℕ) (hn : r < 14336) (h0 : r % 256 = 0) (hh hs) : wM.slice (Rect.unit (s := S14336x4096) ![r, 0] S256x4096.size hh) hs = grp (Ring.bk 56 (r / 256)) :=
  grp_congr (by simp only [grpOff]; rw [Ring.bk_val (by omega)]; congr 1; omega) _ _

end Lits

section Body
variable (c : Dev nD) (XA : Buf (Elt F) (wM.view.loc (c : Thread nD τ)))

/-- A buffer of the core, held whole. -/
abbrev bP (b : Ref sig .tc) (f : Buf (Elt F) ((Memref.whole b).view.loc (c : Thread nD τ))) : sProp 𝕄 :=
  (Memref.whole b).view.loc (c : Thread nD τ) ↦[(Memref.whole b).view.set]{fullShare} f
theorem inb5 (n : ℕ) (hn : n < 5) : ∀ a, (![n] : Fin 1 → ℕ) a + S1.size a ≤ S5.size a := by
  intro a; fin_cases a; show n + 1 ≤ 5; omega
/-- The cell of the kernel's other transfers' semaphore `n`. -/
abbrev xcell (n : ℕ) (hn : n < 5) : sProp 𝕄 := semVal ((c : Thread nD τ), SemLoc.dma ((cc0_scratch9.slice (Rect.unit (s := S5) ![n] S1.size (inb5 n hn))).squeeze S_ squeezes_S1_S_).sem) 0

abbrev bodyG : Prog (TpuEff nD τ sig (Elt F) Λ₀ .tc) PUnit :=
  cc0_fp8_block_linear (F := F) (Memref.whole main_v0) (Memref.isWhole_whole _) wM (Memref.isWhole_whole _) (Memref.whole main_v1) (Memref.isWhole_whole _)
    (Memref.whole main_v2_0) (Memref.isWhole_whole _) (Memref.whole main_v2_1) (Memref.isWhole_whole _) (Memref.whole main_v2_2) (Memref.isWhole_whole _)
    (Memref.whole cc0_scratch0) (Memref.isWhole_whole _) (Memref.whole cc0_scratch1) (Memref.isWhole_whole _) bufM (Memref.isWhole_whole _)
    (Memref.whole cc0_scratch3) (Memref.isWhole_whole _) (Memref.whole cc0_scratch4) (Memref.isWhole_whole _) xdM (Memref.isWhole_whole _)
    wsxM (Memref.isWhole_whole _) yM (Memref.isWhole_whole _) cc0_scratch8 cc0_scratch9

abbrev freeP (n : ℕ) : sProp 𝕄 := iprop(cellP c (Ring.sl 16 n) ∗ ∃ f, slotP c (Ring.sl 16 n) f)

abbrev PRE (XV : Buf (Elt F) ((Memref.whole main_v0).view.loc (c : Thread nD τ))) (WV : Buf (Elt F) ((Memref.whole main_v1).view.loc (c : Thread nD τ))) (W : Waits sig Unit) : sProp 𝕄 :=
  iprop(bP c main_v0 XV ∗ bP c main_v1 WV ∗ (∃ f, bP c main_v2_0 f) ∗ (∃ f, bP c main_v2_1 f) ∗ (∃ f, bP c main_v2_2 f)
    ∗ (∃ f, bP c cc0_scratch0 f) ∗ (∃ f, bP c cc0_scratch1 f) ∗ (∃ f, bP c cc0_scratch3 f) ∗ (∃ f, bP c cc0_scratch4 f)
    ∗ (∃ f, bP c cc0_scratch5 f) ∗ (∃ f, bP c cc0_scratch6 f) ∗ (∃ f, bP c cc0_scratch7 f)
    ∗ xcell c 0 (by decide) ∗ xcell c 1 (by decide) ∗ xcell c 2 (by decide) ∗ xcell c 3 (by decide) ∗ xcell c 4 (by decide)
    ∗ bigSep Finset.univ (homeP c XA)
    ∗ (freeP c 0 ∗ freeP c 1 ∗ freeP c 2 ∗ freeP c 3 ∗ freeP c 4 ∗ freeP c 5 ∗ freeP c 6 ∗ freeP c 7 ∗ freeP c 8 ∗ freeP c 9 ∗ freeP c 10 ∗ freeP c 11 ∗ freeP c 12 ∗ freeP c 13 ∗ freeP c 14 ∗ freeP c 15)
    ∗ owes (c : Thread nD τ) 0 W)

/-- The ring at the loop's entry: the first 16 blocks in flight, block `i` in slot `i`. -/
theorem roles_zero :
    iprop((∃ f, flightP c XA (Ring.sl 16 0) (Ring.bk 56 0) f) ∗ (∃ f, flightP c XA (Ring.sl 16 1) (Ring.bk 56 1) f) ∗ (∃ f, flightP c XA (Ring.sl 16 2) (Ring.bk 56 2) f) ∗ (∃ f, flightP c XA (Ring.sl 16 3) (Ring.bk 56 3) f) ∗ (∃ f, flightP c XA (Ring.sl 16 4) (Ring.bk 56 4) f) ∗ (∃ f, flightP c XA (Ring.sl 16 5) (Ring.bk 56 5) f) ∗ (∃ f, flightP c XA (Ring.sl 16 6) (Ring.bk 56 6) f) ∗ (∃ f, flightP c XA (Ring.sl 16 7) (Ring.bk 56 7) f) ∗ (∃ f, flightP c XA (Ring.sl 16 8) (Ring.bk 56 8) f) ∗ (∃ f, flightP c XA (Ring.sl 16 9) (Ring.bk 56 9) f) ∗ (∃ f, flightP c XA (Ring.sl 16 10) (Ring.bk 56 10) f) ∗ (∃ f, flightP c XA (Ring.sl 16 11) (Ring.bk 56 11) f) ∗ (∃ f, flightP c XA (Ring.sl 16 12) (Ring.bk 56 12) f) ∗ (∃ f, flightP c XA (Ring.sl 16 13) (Ring.bk 56 13) f) ∗ (∃ f, flightP c XA (Ring.sl 16 14) (Ring.bk 56 14) f) ∗ (∃ f, flightP c XA (Ring.sl 16 15) (Ring.bk 56 15) f))
      ⊢ bigSep (Finset.Ico 0 (0 + 16)) (role c XA) := by
  have e : Finset.Ico 0 (0 + 16) = ([0, 1, 2, 3, 4, 5, 6, 7, 8, 9, 10, 11, 12, 13, 14, 15] : List ℕ).toFinset := by decide
  rw [bigSep_eq_bigSepL_of_eq _ e (by decide)]
  exact entails_of_eq rfl

/-- The weight's blocks at the start: the first 16 about to go out, beside the rest. -/
theorem homes_start : bigSep Finset.univ (homeP c XA)
    ⊢ iprop(bigSep (Ring.homeSet 16 0) (homeP c XA) ∗ homeP c XA (Ring.bk 56 (0 / 256)) ∗ homeP c XA (Ring.bk 56 (256 / 256)) ∗ homeP c XA (Ring.bk 56 (512 / 256)) ∗ homeP c XA (Ring.bk 56 (768 / 256)) ∗ homeP c XA (Ring.bk 56 (1024 / 256)) ∗ homeP c XA (Ring.bk 56 (1280 / 256)) ∗ homeP c XA (Ring.bk 56 (1536 / 256)) ∗ homeP c XA (Ring.bk 56 (1792 / 256)) ∗ homeP c XA (Ring.bk 56 (2048 / 256)) ∗ homeP c XA (Ring.bk 56 (2304 / 256)) ∗ homeP c XA (Ring.bk 56 (2560 / 256)) ∗ homeP c XA (Ring.bk 56 (2816 / 256)) ∗ homeP c XA (Ring.bk 56 (3072 / 256)) ∗ homeP c XA (Ring.bk 56 (3328 / 256)) ∗ homeP c XA (Ring.bk 56 (3584 / 256)) ∗ homeP c XA (Ring.bk 56 (3840 / 256))) := by
  have e : (Finset.univ : Finset (Fin 56)) = Ring.homeSet 16 0 ∪ ([0, 1, 2, 3, 4, 5, 6, 7, 8, 9, 10, 11, 12, 13, 14, 15] : List (Fin 56)).toFinset := by decide
  rw [e, BI.bigSep_union (by decide), bigSep_eq_bigSepL_of_eq [0, 1, 2, 3, 4, 5, 6, 7, 8, 9, 10, 11, 12, 13, 14, 15] rfl (by decide)]
  exact entails_of_eq rfl
/-- The ring after the loop: every slot free. -/
theorem roles_last : bigSep (Finset.Ico 56 (56 + 16)) (role c XA) ⊢ iprop(freeP c 0 ∗ freeP c 1 ∗ freeP c 2 ∗ freeP c 3 ∗ freeP c 4 ∗ freeP c 5 ∗ freeP c 6 ∗ freeP c 7 ∗ freeP c 8 ∗ freeP c 9 ∗ freeP c 10 ∗ freeP c 11 ∗ freeP c 12 ∗ freeP c 13 ∗ freeP c 14 ∗ freeP c 15) := by
  have e : Finset.Ico 56 (56 + 16) = ([64, 65, 66, 67, 68, 69, 70, 71, 56, 57, 58, 59, 60, 61, 62, 63] : List ℕ).toFinset := by decide
  rw [bigSep_eq_bigSepL_of_eq _ e (by decide)]
  exact entails_of_eq rfl

/-- What the body holds after its run: the three results at their contents, everything else back. -/
abbrev POST (XV : Buf (Elt F) ((Memref.whole main_v0).view.loc (c : Thread nD τ))) (WV : Buf (Elt F) ((Memref.whole main_v1).view.loc (c : Thread nD τ))) : sProp 𝕄 :=
  iprop(bP c main_v0 XV ∗ bP c main_v1 WV ∗ bP c main_v2_0 (yV c XA XV WV) ∗ bP c main_v2_1 (codesV (F := F) XV) ∗ bP c main_v2_2 (scalesV (F := F) XV)
    ∗ (∃ f, bP c cc0_scratch0 f) ∗ (∃ f, bP c cc0_scratch1 f) ∗ (∃ f, bP c cc0_scratch3 f) ∗ (∃ f, bP c cc0_scratch4 f)
    ∗ (∃ f, bP c cc0_scratch5 f) ∗ (∃ f, bP c cc0_scratch6 f) ∗ (∃ f, bP c cc0_scratch7 f)
    ∗ xcell c 0 (by decide) ∗ xcell c 1 (by decide) ∗ xcell c 2 (by decide) ∗ xcell c 3 (by decide) ∗ xcell c 4 (by decide)
    ∗ bigSep Finset.univ (homeP c XA)
    ∗ (freeP c 0 ∗ freeP c 1 ∗ freeP c 2 ∗ freeP c 3 ∗ freeP c 4 ∗ freeP c 5 ∗ freeP c 6 ∗ freeP c 7 ∗ freeP c 8 ∗ freeP c 9 ∗ freeP c 10 ∗ freeP c 11 ∗ freeP c 12 ∗ freeP c 13 ∗ freeP c 14 ∗ freeP c 15)
    ∗ (∃ W, owes (c : Thread nD τ) 0 W))

attribute [local sl_canon] semLit slotLit grpLit in
set_option maxRecDepth 16384 in
set_option maxHeartbeats 0 in
theorem bodyRun (XV WV W) (Q : PUnit → sProp 𝕄) :
    iprop(PRE c XA XV WV W ∗ (POST c XA XV WV -∗ Q PUnit.unit))
      ⊢ wp frame (wpE (defs₀ (F := F)) 𝒱₀ (c : Thread nD τ) none) Set.univ (bodyG (F := F)) Q := by
  iintro ⟨⟨Hx, Hws, ⟨%fy, Hy⟩, ⟨%fc, Hc⟩, ⟨%fs, Hs⟩, ⟨%g0, H0⟩, ⟨%g1, H1⟩, ⟨%g3, H3⟩, ⟨%g4, H4⟩, ⟨%g5, H5⟩, ⟨%g6, H6⟩, ⟨%g7, H7⟩, C0, C1, C2, C3, C4, Hh, ⟨⟨K0, ⟨%s0, S0⟩⟩, ⟨K1, ⟨%s1, S1⟩⟩, ⟨K2, ⟨%s2, S2⟩⟩, ⟨K3, ⟨%s3, S3⟩⟩, ⟨K4, ⟨%s4, S4⟩⟩, ⟨K5, ⟨%s5, S5⟩⟩, ⟨K6, ⟨%s6, S6⟩⟩, ⟨K7, ⟨%s7, S7⟩⟩, ⟨K8, ⟨%s8, S8⟩⟩, ⟨K9, ⟨%s9, S9⟩⟩, ⟨K10, ⟨%s10, S10⟩⟩, ⟨K11, ⟨%s11, S11⟩⟩, ⟨K12, ⟨%s12, S12⟩⟩, ⟨K13, ⟨%s13, S13⟩⟩, ⟨K14, ⟨%s14, S14⟩⟩, ⟨K15, ⟨%s15, S15⟩⟩⟩, HW⟩, HQ⟩
  ihave Hst := (homes_start c XA) $$ Hh
  icases Hst with ⟨Hh, G0, G1, G2, G3, G4, G5, G6, G7, G8, G9, G10, G11, G12, G13, G14, G15⟩
  sl_exec
  have e3 : bodyRun.sl.H3_32 c XV = codeList c XV := rfl
  have e5 : bodyRun.sl.H5_32 c XV = xdList c XV := rfl
  have e6 : bodyRun.sl.H6_32 c WV = wsxList c WV := rfl
  have e4 : bodyRun.sl.H4_1 c XV = [⟨Rect.unit (s := S24x32) ![0, 0] S24x32.size inb_S24x32_S24x32_0_0, shapeCast S24x32 (scaleAcc c XV 32) shapeCasts_S24x32_S24x32⟩] := rfl
  ihave HR := (roles_zero c XA) $$ [K0 K1 K2 K3 K4 K5 K6 K7 K8 K9 K10 K11 K12 K13 K14 K15]
  · isplitl [K0]; · iexists s0; iexact K0
    isplitl [K1]; · iexists s1; iexact K1
    isplitl [K2]; · iexists s2; iexact K2
    isplitl [K3]; · iexists s3; iexact K3
    isplitl [K4]; · iexists s4; iexact K4
    isplitl [K5]; · iexists s5; iexact K5
    isplitl [K6]; · iexists s6; iexact K6
    isplitl [K7]; · iexists s7; iexact K7
    isplitl [K8]; · iexists s8; iexact K8
    isplitl [K9]; · iexists s9; iexact K9
    isplitl [K10]; · iexists s10; iexact K10
    isplitl [K11]; · iexists s11; iexact K11
    isplitl [K12]; · iexists s12; iexact K12
    isplitl [K13]; · iexists s13; iexact K13
    isplitl [K14]; · iexists s14; iexact K14
    iexists s15; iexact K15
  sl_for (fun k _ => resAt c XA ((Memref.whole cc0_scratch5).view.writes (Elt F) (Memref.whole cc0_scratch5).view.junk (bodyRun.sl.H5_32 c XV))
    ((Memref.whole cc0_scratch6).view.writes (Elt F) (Memref.whole cc0_scratch6).view.junk (bodyRun.sl.H6_32 c WV)) k (yAcc c XA ((Memref.whole cc0_scratch5).view.writes (Elt F) (Memref.whole cc0_scratch5).view.junk (bodyRun.sl.H5_32 c XV))
    ((Memref.whole cc0_scratch6).view.writes (Elt F) (Memref.whole cc0_scratch6).view.junk (bodyRun.sl.H6_32 c WV)) g7 k)) $$ [H5 H6 H7 HW Hh HR]
  · intro k acc
    exact (loopInv c XA ((Memref.whole cc0_scratch5).view.writes (Elt F) (Memref.whole cc0_scratch5).view.junk (bodyRun.sl.H5_32 c XV))
    ((Memref.whole cc0_scratch6).view.writes (Elt F) (Memref.whole cc0_scratch6).view.junk (bodyRun.sl.H6_32 c WV)) g7).step k acc
  · unfold resAt
    isplitl [H5]; · iexact H5
    isplitl [H6]; · iexact H6
    isplitl [H7]; · iexact H7
    isplitl [HW]; · iexists _; iexact HW
    isplitl [Hh]; · iexact Hh
    iexact HR
  iintro %acc Hinv
  ihave Hend := (entails_of_eq (resAt_last c XA ((Memref.whole cc0_scratch5).view.writes (Elt F) (Memref.whole cc0_scratch5).view.junk (bodyRun.sl.H5_32 c XV))
    ((Memref.whole cc0_scratch6).view.writes (Elt F) (Memref.whole cc0_scratch6).view.junk (bodyRun.sl.H6_32 c WV)) g7)) $$ Hinv
  icases Hend with ⟨H5, H6, H7, ⟨%W', HW⟩, Hh, HR⟩
  sl_exec
  ihave HF := (roles_last c XA) $$ HR
  have d5 : (Memref.whole cc0_scratch5).view.writes (Elt F) (Memref.whole cc0_scratch5).view.junk (bodyRun.sl.H5_32 c XV) = xdV (F := F) XV := by
    rw [e5]; exact xd_writes c XV _
  have d6 : (Memref.whole cc0_scratch6).view.writes (Elt F) (Memref.whole cc0_scratch6).view.junk (bodyRun.sl.H6_32 c WV) = wsxV (F := F) WV := by
    rw [e6]; exact wsx_writes c WV _
  have d0 : (Memref.whole main_v2_0).view.writes (Elt F) fy [⟨Rect.whole main_v2_0.ty.shape, bodyRun.sl.dma0_18 c XA XV WV⟩] = yV c XA XV WV := by
    refine (whole_writes c main_v2_0 fy _).trans ?_
    show yOf c XA ((Memref.whole cc0_scratch5).view.writes (Elt F) (Memref.whole cc0_scratch5).view.junk (bodyRun.sl.H5_32 c XV))
      ((Memref.whole cc0_scratch6).view.writes (Elt F) (Memref.whole cc0_scratch6).view.junk (bodyRun.sl.H6_32 c WV)) = yV c XA XV WV
    rw [d5, d6]; rfl
  have d1 : (Memref.whole main_v2_1).view.writes (Elt F) fc [⟨Rect.whole main_v2_1.ty.shape, bodyRun.sl.dma227 c XV g3⟩] = codesV (F := F) XV := by
    refine (whole_writes c main_v2_1 fc _).trans ?_
    show (Memref.whole cc0_scratch3).view.writes (Elt F) g3 (bodyRun.sl.H3_32 c XV) = codesV (F := F) XV
    rw [e3]; exact codes_writes c XV g3
  have d2 : (Memref.whole main_v2_2).view.writes (Elt F) fs [⟨Rect.whole main_v2_2.ty.shape, bodyRun.sl.dma227_1 c XV g4⟩] = scalesV (F := F) XV := by
    refine (whole_writes c main_v2_2 fs _).trans ?_
    show (Memref.whole cc0_scratch4).view.writes (Elt F) g4 (bodyRun.sl.H4_1 c XV) = scalesV (F := F) XV
    rw [e4]; exact scales_writes c XV g4
  ihave Hy' := (entails_of_eq (congrArg (fun f => bP c main_v2_0 f) d0)) $$ Hy
  ihave Hc' := (entails_of_eq (congrArg (fun f => bP c main_v2_1 f) d1)) $$ Hc
  ihave Hs' := (entails_of_eq (congrArg (fun f => bP c main_v2_2 f) d2)) $$ Hs
  sl_step
  iapply HQ
  isplitl [Hx]; · iexact Hx
  isplitl [Hws]; · iexact Hws
  isplitl [Hy']; · iexact Hy'
  isplitl [Hc']; · iexact Hc'
  isplitl [Hs']; · iexact Hs'
  isplitl [H0]; · iexists _; iexact H0
  isplitl [H1]; · iexists _; iexact H1
  isplitl [H3]; · iexists _; iexact H3
  isplitl [H4]; · iexists _; iexact H4
  isplitl [H5]; · iexists _; iexact H5
  isplitl [H6]; · iexists _; iexact H6
  isplitl [H7]; · iexists _; iexact H7
  isplitl [C0]; · iexact C0
  isplitl [C1]; · iexact C1
  isplitl [C2]; · iexact C2
  isplitl [C3]; · iexact C3
  isplitl [C4]; · iexact C4
  isplitl [Hh]; · iexact Hh
  isplitl [HF]; · iexact HF
  iexists _; iexact HW

end Body

end Cert.Proof.IdealBody

end
-- ==== Proof.IdealLaunch.lean ====
/-
  The run of the whole program: the body's run put between the host lines, its result buffers named, every argument
  unchanged and every semaphore at zero.
-/
module

public import proofs.«01_k».proof.Proof.IdealBody
public import Idealize.ShloMosaic.Lib.Pipeline.FrameSuffixV

@[expose] public section

noncomputable section

namespace Cert.Proof.IdealBody

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's own semaphores: the ring's sixteen and the five others -/

abbrev osem : Fin 16 ⊕ Fin 5 → SemLoc sig := Sum.elim (fun s => .dma (csm s).sem)
  (fun n => .dma ((cc0_scratch9.slice (Rect.unit (s := S5) ![n.val] S1.size (inb5 n.val n.isLt))).squeeze S_ squeezes_S1_S_).sem)
theorem ownSemFacts : Pipeline.OwnSemFacts (cfg0.spec) osem := by decide

/-! ## Element sets: the weight's 56 blocks, the ring's 16 slots -/

abbrev GB (b : Fin 56) : Finset S14336x4096.Idx := (Rect.unit (s := S14336x4096) (grpOff b) S256x4096.size (grpOff_inb b)).set
abbrev SB (s : Fin 16) : Finset S16x256x4096.Idx := (Rect.unit (s := S16x256x4096) (slotOff s) S1x256x4096.size (slotOff_inb s)).set

theorem grp_set (b : Fin 56) : (grp b : Memref sig .tc .hbm _ _).view.set = GB b := View.set_slice_whole _ _
theorem rslot_set (s : Fin 16) : (rslot s : Memref sig .tc .vmem _ _).view.set = SB s := (View.set_reshape _ _).trans (View.set_slice_whole _ _)

theorem mem_GB (b : Fin 56) (y : S14336x4096.Idx) : y ∈ GB b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem mem_SB (s : Fin 16) (y : S16x256x4096.Idx) : y ∈ SB s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem GB_disjoint : ∀ b b' : Fin 56, b ≠ b' → Disjoint (GB b) (GB b') := by
  intro b b' hne; rw [Finset.disjoint_left]; intro y hy hy'; rw [mem_GB] at hy hy'; exact hne (Fin.ext (hy.symm.trans hy'))
theorem GB_cover : (Finset.univ : Finset (Fin 56)).biUnion GB = Finset.univ := by
  ext y; simp only [Finset.mem_biUnion, Finset.mem_univ, true_and, iff_true]
  have h0 : (y 0).val < 14336 := (y 0).isLt
  exact ⟨⟨(y 0).val / 256, by omega⟩, (mem_GB _ _).2 rfl⟩
theorem SB_disjoint : ∀ s s' : Fin 16, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 16)).biUnion SB = Finset.univ := by
  ext y; simp only [Finset.mem_biUnion, Finset.mem_univ, true_and, iff_true]; exact ⟨(y 0).cast (by decide), (mem_SB _ _).2 rfl⟩

/-- The weight whole is its 56 blocks home. -/
theorem a_eq (c : Dev nD) (XA : Buf (Elt F) (wM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) GB GB_disjoint GB_cover]
  exact bigSep_congr fun b _ => by rw [← grp_set]; rfl

theorem slotP_eq (c : Dev nD) (s : Fin 16) (f) : slotP c s f = (((c : Thread nD τ).loc cc0_scratch2) ↦[SB s]{fullShare} f : sProp 𝕄) :=
  congrArg (fun S => (_ ↦[S]{fullShare} f : sProp 𝕄)) (rslot_set s)
/-- The ring's buffer whole is its sixteen slots, each at some contents, and back. -/
theorem buf_split (c : Dev nD) :
    iprop(∃ f : Buf (Elt F) ((c : Thread nD τ).loc cc0_scratch2), ((c : Thread nD τ).loc cc0_scratch2) ↦{fullShare} f)
      ⊢ (bigSep Finset.univ (fun s : Fin 16 => iprop(∃ f, slotP c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch2) SB SB_disjoint SB_cover f)) $$ H
  have e1 : ∀ s : Fin 16, (slotP c s f : sProp 𝕄) ⊢ iprop(∃ f, slotP c s f) := fun s => by iintro H; iexists f; iexact H
  have e : (bigSep Finset.univ (fun s : Fin 16 => (((c : Thread nD τ).loc cc0_scratch2) ↦[SB s]{fullShare} f : sProp 𝕄)) : sProp 𝕄)
      ⊢ bigSep Finset.univ (fun s : Fin 16 => iprop(∃ f, slotP c s f)) := BI.bigSep_mono fun s _ => (entails_of_eq (slotP_eq c s f).symm).trans (e1 s)
  iapply e; iexact H2
theorem buf_join (c : Dev nD) :
    (bigSep Finset.univ (fun s : Fin 16 => iprop(∃ f, slotP c s f)) : sProp 𝕄)
      ⊢ (iprop(∃ f : Buf (Elt F) ((c : Thread nD τ).loc cc0_scratch2), ((c : Thread nD τ).loc cc0_scratch2) ↦{fullShare} f) : sProp 𝕄) := by
  refine .trans ?_ (Ring.pointsTo_blocks_join_exists (ℓ := (c : Thread nD τ).loc cc0_scratch2) SB SB_disjoint SB_cover (fun _ => Classical.arbitrary _))
  exact entails_of_eq (bigSep_congr fun s _ => by simp only [slotP_eq]; rfl)

/-- The kernel's own cells: the ring's and the five others. -/
theorem ownSems0_eq (c : Dev nD) : (Pipeline.ownSems0 (Ix := Unit) (Name := ℕ) (U := UU nD τ) (Lvl := ℕ) (Val := Elt F) (τ := τ) osem c : sProp 𝕄)
    = iprop(bigSep Finset.univ (fun s : Fin 16 => cellP c s)
        ∗ xcell c 0 (by decide) ∗ xcell c 1 (by decide) ∗ xcell c 2 (by decide) ∗ xcell c 3 (by decide) ∗ xcell c 4 (by decide)) := by
  unfold Pipeline.ownSems0
  have e : (Finset.univ : Finset (Fin 16 ⊕ Fin 5)) = Finset.univ.map ⟨Sum.inl, Sum.inl_injective⟩ ∪ ([Sum.inr 0, Sum.inr 1, Sum.inr 2, Sum.inr 3, Sum.inr 4] : List (Fin 16 ⊕ Fin 5)).toFinset := by decide
  rw [e, BI.bigSep_union (by decide), bigSep_map, bigSep_eq_bigSepL_of_eq [Sum.inr 0, Sum.inr 1, Sum.inr 2, Sum.inr 3, Sum.inr 4] rfl (by decide)]
  rfl

/-- The sixteen free slots are the ring's cells beside its slots. -/
theorem free_eq (c : Dev nD) : (iprop(freeP c 0 ∗ freeP c 1 ∗ freeP c 2 ∗ freeP c 3 ∗ freeP c 4 ∗ freeP c 5 ∗ freeP c 6 ∗ freeP c 7 ∗ freeP c 8 ∗ freeP c 9 ∗ freeP c 10 ∗ freeP c 11 ∗ freeP c 12 ∗ freeP c 13 ∗ freeP c 14 ∗ freeP c 15) : sProp 𝕄)
    = iprop(bigSep Finset.univ (fun s : Fin 16 => cellP c s) ∗ bigSep Finset.univ (fun s : Fin 16 => iprop(∃ f, slotP c s f))) := by
  refine Eq.trans ?_ (BI.bigSep_sep _ _ _)
  rw [bigSep_univ_eq_bigSepL [Ring.sl 16 0, Ring.sl 16 1, Ring.sl 16 2, Ring.sl 16 3, Ring.sl 16 4, Ring.sl 16 5, Ring.sl 16 6, Ring.sl 16 7, Ring.sl 16 8, Ring.sl 16 9, Ring.sl 16 10, Ring.sl 16 11, Ring.sl 16 12, Ring.sl 16 13, Ring.sl 16 14, Ring.sl 16 15] (by decide) (by decide)]
  rfl

/-! ## What the region is entered with and left with -/

section Run
variable (m : (ℓ : Loc nD τ sig) → Buf (Elt F) ℓ) (ρ : Dev nD → PrngReg)

/-- The buffers the region reads and leaves as they were; the buffers it writes. -/
abbrev HH : Finset (Ref sig .tc) := ([main_arg1, main_v0, main_v1] : List (Ref sig .tc)).toFinset
abbrev RR : Finset (Ref sig .tc) := ([main_v2_0, main_v2_1, main_v2_2] : List (Ref sig .tc)).toFinset

/-- The buffers' contents as the region leaves them: the three results at their values, the rest as found. -/
def G (c : Dev nD) (b : Ref sig .tc) : Buf (Elt F) ((c.tc : Thread nD τ).loc b) :=
  if h0 : b = main_v2_0 then h0 ▸ (yV c (V m c main_arg1) (V m c main_v0) (V m c main_v1))
  else if h1 : b = main_v2_1 then h1 ▸ (codesV (F := F) (V m c main_v0))
  else if h2 : b = main_v2_2 then h2 ▸ (scalesV (F := F) (V m c main_v0))
  else V m c b

theorem G_y (c : Dev nD) : G m c main_v2_0 = yV c (V m c main_arg1) (V m c main_v0) (V m c main_v1) := by
  unfold G; rw [dif_pos rfl]
theorem G_codes (c : Dev nD) : G m c main_v2_1 = codesV (F := F) (V m c main_v0) := by
  unfold G; rw [dif_neg (by decide), dif_pos rfl]
theorem G_scales (c : Dev nD) : G m c main_v2_2 = scalesV (F := F) (V m c main_v0) := by
  unfold G; rw [dif_neg (by decide), dif_neg (by decide), dif_pos rfl]

/-- What the region holds beside its windows at contents `g` of the buffers it writes. -/
abbrev Held (g : (c : Dev nD) → (b : Ref sig .tc) → Buf (Elt F) ((c.tc : Thread nD τ).loc b)) (c : Dev nD) : sProp 𝕄 :=
  Pipeline.ΦDRV osem (cfg0.spec) HH RR (V m) g c

theorem held_eq (g : (c : Dev nD) → (b : Ref sig .tc) → Buf (Elt F) ((c.tc : Thread nD τ).loc b)) (c : Dev nD) : Held m g c
    = iprop(Pipeline.scopedRest (cfg0.spec) c
        ∗ (bigSep Finset.univ (fun s : Fin 16 => cellP c s)
          ∗ xcell c 0 (by decide) ∗ xcell c 1 (by decide) ∗ xcell c 2 (by decide) ∗ xcell c 3 (by decide) ∗ xcell c 4 (by decide))
        ∗ ((((c : Thread nD τ).loc main_arg1) ↦{fullShare} V m c main_arg1) ∗ bP c main_v0 (V m c main_v0) ∗ bP c main_v1 (V m c main_v1))
        ∗ (bP c main_v2_0 (g c main_v2_0) ∗ bP c main_v2_1 (g c main_v2_1) ∗ bP c main_v2_2 (g c main_v2_2))) := by
  rw [← ownSems0_eq]
  unfold Held Pipeline.ΦDRV
  rw [bigSep_eq_bigSepL_of_eq [main_arg1, main_v0, main_v1] rfl (by decide), bigSep_eq_bigSepL_of_eq [main_v2_0, main_v2_1, main_v2_2] rfl (by decide)]
  simp only [bP, Memref.view_whole, View.set_whole]
  rfl

/-- The buffers the region allocates, each whole at some contents. -/
theorem scoped_eq (c : Dev nD) : (Pipeline.scopedRest (cfg0.spec) c : sProp 𝕄)
    = iprop((∃ f, bP c cc0_scratch0 f) ∗ (∃ f, bP c cc0_scratch1 f) ∗ (∃ f : Buf (Elt F) ((c : Thread nD τ).loc cc0_scratch2), ((c : Thread nD τ).loc cc0_scratch2) ↦{fullShare} f)
        ∗ (∃ f, bP c cc0_scratch3 f) ∗ (∃ f, bP c cc0_scratch4 f) ∗ (∃ f, bP c cc0_scratch5 f) ∗ (∃ f, bP c cc0_scratch6 f) ∗ (∃ f, bP c cc0_scratch7 f)) := by
  rw [scopedRest0_eq]
  simp only [bP, Memref.view_whole, View.set_whole]

set_option maxHeartbeats 0 in
/-- Entering: what the region holds is what the body needs. -/
theorem held_pre (c : Dev nD) (W : Waits sig Unit) :
    iprop(Held m (V m) c ∗ owes (c : Thread nD τ) 0 W) ⊢ PRE c (V m c main_arg1) (V m c main_v0) (V m c main_v1) W := by
  unfold PRE
  rw [held_eq, scoped_eq, a_eq, free_eq]
  iintro ⟨⟨⟨B0, B1, B2, B3, B4, B5, B6, B7⟩, ⟨HC, C0, C1, C2, C3, C4⟩, ⟨Ha, Hx, Hw⟩, Hy, Hc, Hs⟩, HW⟩
  ihave HS := (buf_split c) $$ B2
  isplitl [Hx]; · iexact Hx
  isplitl [Hw]; · iexact Hw
  isplitl [Hy]; · iexists _; iexact Hy
  isplitl [Hc]; · iexists _; iexact Hc
  isplitl [Hs]; · iexists _; iexact Hs
  isplitl [B0]; · iexact B0
  isplitl [B1]; · iexact B1
  isplitl [B3]; · iexact B3
  isplitl [B4]; · iexact B4
  isplitl [B5]; · iexact B5
  isplitl [B6]; · iexact B6
  isplitl [B7]; · iexact B7
  isplitl [C0]; · iexact C0
  isplitl [C1]; · iexact C1
  isplitl [C2]; · iexact C2
  isplitl [C3]; · iexact C3
  isplitl [C4]; · iexact C4
  isplitl [Ha]; · iexact Ha
  isplitl [HC HS]
  · isplitl [HC]; · iexact HC
    iexact HS
  iexact HW

set_option maxHeartbeats 0 in
/-- Leaving: what the body gives back is what the region holds, the results at their values. -/
theorem post_held (c : Dev nD) :
    POST c (V m c main_arg1) (V m c main_v0) (V m c main_v1) ⊢ iprop(Held m (G m) c ∗ ∃ W, owes (c : Thread nD τ) 0 W) := by
  unfold POST
  rw [held_eq, scoped_eq, a_eq, free_eq, G_y, G_codes, G_scales]
  iintro ⟨Hx, Hw, Hy, Hc, Hs, B0, B1, B3, B4, B5, B6, B7, C0, C1, C2, C3, C4, Ha, ⟨HC, HS⟩, HW⟩
  ihave B2 := (buf_join c) $$ HS
  isplitr [HW]
  · isplitl [B0 B1 B2 B3 B4 B5 B6 B7]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [HC C0 C1 C2 C3 C4]
    · isplitl [HC]; · iexact HC
      isplitl [C0]; · iexact C0
      isplitl [C1]; · iexact C1
      isplitl [C2]; · iexact C2
      isplitl [C3]; · iexact C3
      iexact C4
    isplitl [Ha Hx Hw]
    · isplitl [Ha]; · iexact Ha
      isplitl [Hx]; · iexact Hx
      iexact Hw
    isplitl [Hy]; · iexact Hy
    isplitl [Hc]; · iexact Hc
    iexact Hs
  iexact HW

/-! ## The pipeline's proof data and the body's obligation -/

def dats (_ : Fin 1) (c : Dev nD) : Dat τ (Elt F) Unit ℕ (UU nD τ) ℕ cfg0 c where
  A w := w.elim0
  after w t := w.elim0
  Φ t := if t.val = 0 then Held m (V m) c else Held m (G m) c
  q _ := fullShare
  owed _ := 0

theorem Φ_enter (c : Dev nD) (t : Fin (cfg0.N + 1)) (h : t.val = 0) : (dats m 0 c).Φ t = Held m (V m) c := by
  dsimp only [dats]; rw [if_pos h]
theorem Φ_leave (c : Dev nD) (t : Fin (cfg0.N + 1)) (h : t.val ≠ 0) : (dats m 0 c).Φ t = Held m (G m) c := by
  dsimp only [dats]; rw [if_neg h]

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

set_option backward.isDefEq.respectTransparency.types false in
theorem body_obligation (c : Dev nD) : BodyObligation (dats (F := F) m 0 c) (defs₀ (F := F)) 𝒱₀ () Set.univ := fun t => by
  have ht : t.val = 0 := by have := t.isLt; have h1 : cfg0.N = 1 := N_0; omega
  rw [show (Finset.univ : Finset (Fin cfg0.W)) = ∅ from rfl, BI.bigSep_empty, BI.bigSep_empty]
  rw [Φ_enter m c t.castSucc ht, Φ_leave m c t.succ (Nat.succ_ne_zero _)]
  unfold Dat.owesAt Pipeline.owesWithin
  rw [show (dats m 0 c).owed t.castSucc = 0 from rfl, show (dats m 0 c).owed t.succ = 0 from rfl]
  iintro ⟨HH, ⟨%W, -, HW⟩, -⟩
  sl_rw [prog_eq t]
  iapply (bodyRun c (V m c main_arg1) (V m c main_v0) (V m c main_v1) W)
  isplitl [HH HW]
  · iapply (held_pre m c W)
    isplitl [HH]; · iexact HH
    iexact HW
  · iintro HP
    ihave H2 := (post_held m c) $$ HP
    icases H2 with ⟨HH, ⟨%W', HW⟩⟩
    isplitl [HH]; · iexact HH
    isplitl [HW]
    · iexists W'; isplitr; · ipureintro; exact fun _ _ => Or.inl trivial
      iexact HW
    iempintro

/-! ## The run -/

/-- The buffers after the whole program: the host lines after the region, over what the region leaves. -/
def fin (c : Dev nD) : Valuation τ sig (Elt F) :=
  StableHlo.after (List.flatten [hostOps1]) (Pipeline.withArrays (cfg0.spec) c (Pipeline.withR (V0 m c) RR c (G m c)) fun w => (dats m 0 c).arrAt w cfg0.N)

set_option backward.isDefEq.respectTransparency.types false in
/-- Every run of the program ends, with every buffer that no window stages at `fin` and every semaphore at zero. -/
theorem run_all : θ_run defs (onTc (τ := τ) (main (F := F))) (s₀ m ρ) (fun r =>
    (∀ c : Dev nD, ∀ b ∈ Pipeline.restRefs sig (cfg0.spec), r.2.mem ((c.tc : Thread nD τ).loc b) = fin m c (Proc.devRef .tc b)) ∧ r.2.sem = fun _ => 0) :=
  Pipeline.θ_run_frame_dmaR_aroundV cfgs (dats m) 0 launch0 osem defs₀ 𝒱₀ ownSemFacts HH RR (by decide) (by decide) m ρ main
    (hbody := fun c => (body_obligation m c).loose) (hshare := fun c w => w.elim0) (howed := fun _ _ => rfl)
    (V₀ := V0 m) (opss := [hostOps1]) sfx_sub sfx_fresh sfx_keeps (G := G m)
    (hmain := Pipeline.hmain_around cfgs 0 defs₀ 𝒱₀ m main [hostOps0] [hostOps1] (by simp only [List.Forall]; exact hostOps0_sub)
      (by simp only [List.Forall]; exact hostOps0_fresh) main_chain)
    (hA := fun c w => w.elim0)
    (hin := fun c => entails_of_eq (Φ_enter m c 0 rfl).symm)
    (hout := fun c => entails_of_eq (Φ_leave m c (Fin.last cfg0.N) (by have h1 : cfg0.N = 1 := N_0; show cfg0.N ≠ 0; omega)))
    (Q' := _) (hQ' := fun r h => ⟨fun c => (h.1 c).2, h.2⟩)

end Run

end Cert.Proof.IdealBody

end
-- ==== Proof.IdealRun.lean ====
/-
  The whole program's run read at its arguments and results.
-/
module

public import proofs.«01_k».proof.Proof.IdealLaunch
public import Idealize.ShloMosaic.Lib.Claim

@[expose] public section

noncomputable section

namespace Cert.Proof.IdealBody

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The three results: the buffers the region writes, in the results' shapes. -/
def res0 (c : Dev nD) : Buf (Elt F) ((c.tc : Thread nD τ).loc main_v3) :=
  shapeCast S24x1x14336 (yV c (m ((c.tc : Thread nD τ).loc main_arg1)) (shapeCast S24x4096 (m ((c.tc : Thread nD τ).loc main_arg0)) shapeCasts_S24x1x4096_S24x4096)
    (transpose S32x112 [1, 0] (m ((c.tc : Thread nD τ).loc main_arg2)) transposes_S112x32_S32x112_1_0)) shapeCasts_S24x14336_S24x1x14336
def res1 (c : Dev nD) : Buf (Elt F) ((c.tc : Thread nD τ).loc main_v4) :=
  shapeCast S24x1x4096 (codesV (F := F) (shapeCast S24x4096 (m ((c.tc : Thread nD τ).loc main_arg0)) shapeCasts_S24x1x4096_S24x4096)) shapeCasts_S24x4096_S24x1x4096
def res2 (c : Dev nD) : Buf (Elt F) ((c.tc : Thread nD τ).loc main_v5) :=
  shapeCast S24x1x32 (scalesV (F := F) (shapeCast S24x4096 (m ((c.tc : Thread nD τ).loc main_arg0)) shapeCasts_S24x1x4096_S24x4096)) shapeCasts_S24x32_S24x1x32

theorem V_v0 (c : Dev nD) : V m c main_v0 = shapeCast S24x4096 (m ((c.tc : Thread nD τ).loc main_arg0)) shapeCasts_S24x1x4096_S24x4096 := by
  show StableHlo.after (List.flatten [hostOps0]) (fun b => m (c, b)) (Proc.devRef .tc main_v0) = _
  simp only [hostOps0, List.flatten_cons, List.flatten_nil, List.append_nil, List.cons_append, List.nil_append, StableHlo.after_cons, StableHlo.after_nil]
  after_results_simp
  rfl
theorem V_v1 (c : Dev nD) : V m c main_v1 = transpose S32x112 [1, 0] (m ((c.tc : Thread nD τ).loc main_arg2)) transposes_S112x32_S32x112_1_0 := by
  show StableHlo.after (List.flatten [hostOps0]) (fun b => m (c, b)) (Proc.devRef .tc main_v1) = _
  simp only [hostOps0, List.flatten_cons, List.flatten_nil, List.append_nil, List.cons_append, List.nil_append, StableHlo.after_cons, StableHlo.after_nil]
  after_results_simp

/-- The contents the lines after the region start from. -/
abbrev mid (c : Dev nD) : Valuation τ sig (Elt F) :=
  Pipeline.withArrays (cfg0.spec) c (Pipeline.withR (V0 m c) RR c (G m c)) fun w => (dats m 0 c).arrAt w cfg0.N

theorem mid_res (c : Dev nD) (b : Ref sig .tc) (hb : b ∈ RR) : mid m c (Proc.devRef .tc b) = G m c b := by
  rw [mid, Pipeline.withArrays_of_ne _ c _ _ b (fun w => w.elim0), Pipeline.withR_of_mem _ _ _ _ _ hb]
theorem mid_arg (c : Dev nD) (b : Ref sig .tc) (hb : b ∉ RR) : mid m c (Proc.devRef .tc b) = V m c b := by
  rw [mid, Pipeline.withArrays_of_ne _ c _ _ b (fun w => w.elim0), Pipeline.withR_of_not_mem _ _ _ _ _ hb]

/-- A buffer no line after the region writes is left as the region leaves it. -/
theorem fin_keep (c : Dev nD) (b : Ref sig .tc) (h3 : b ≠ main_v3) (h4 : b ≠ main_v4) (h5 : b ≠ main_v5) : fin m c (Proc.devRef .tc b) = mid m c (Proc.devRef .tc b) := by
  unfold fin
  exact StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h3, StableHlo.devRef_ne_of_ne h4, StableHlo.devRef_ne_of_ne h5⟩))

theorem fin_v3 (c : Dev nD) : fin m c (Proc.devRef .tc main_v3) = res0 m c := by
  unfold fin
  have e : StableHlo.after (List.flatten [hostOps1]) (mid m c) (Proc.devRef .tc main_v3) = shapeCast S24x1x14336 (mid m c (Proc.devRef .tc main_v2_0)) shapeCasts_S24x14336_S24x1x14336 := by
    generalize mid m c = σ
    simp only [hostOps1, List.flatten_cons, List.flatten_nil, List.append_nil, List.cons_append, List.nil_append, StableHlo.after_cons, StableHlo.after_nil]
    after_results_simp
    rfl
  refine e.trans ?_
  rw [mid_res m c main_v2_0 (by decide), G_y, V_main_arg1, V_v0, V_v1]; rfl
theorem fin_v4 (c : Dev nD) : fin m c (Proc.devRef .tc main_v4) = res1 m c := by
  unfold fin
  have e : StableHlo.after (List.flatten [hostOps1]) (mid m c) (Proc.devRef .tc main_v4) = shapeCast S24x1x4096 (mid m c (Proc.devRef .tc main_v2_1)) shapeCasts_S24x4096_S24x1x4096 := by
    generalize mid m c = σ
    simp only [hostOps1, List.flatten_cons, List.flatten_nil, List.append_nil, List.cons_append, List.nil_append, StableHlo.after_cons, StableHlo.after_nil]
    after_results_simp
    rfl
  refine e.trans ?_
  rw [mid_res m c main_v2_1 (by decide), G_codes, V_v0]; rfl
theorem fin_v5 (c : Dev nD) : fin m c (Proc.devRef .tc main_v5) = res2 m c := by
  unfold fin
  have e : StableHlo.after (List.flatten [hostOps1]) (mid m c) (Proc.devRef .tc main_v5) = shapeCast S24x1x32 (mid m c (Proc.devRef .tc main_v2_2)) shapeCasts_S24x32_S24x1x32 := by
    generalize mid m c = σ
    simp only [hostOps1, List.flatten_cons, List.flatten_nil, List.append_nil, List.cons_append, List.nil_append, StableHlo.after_cons, StableHlo.after_nil]
    after_results_simp
    rfl
  refine e.trans ?_
  rw [mid_res m c main_v2_2 (by decide), G_scales, V_v0]; rfl

/-- Every run ends with the three results at their values, the arguments unchanged and every semaphore at zero. -/
theorem run_results : θ_run defs (onTc (τ := τ) (main (F := F))) ⟨m, fun _ => 0, ρ⟩ (fun r => (∀ c : Dev nD,
      (r.2.mem ((c.tc : Thread nD τ).loc main_v3) = res0 m c
      ∧ r.2.mem ((c.tc : Thread nD τ).loc main_v4) = res1 m c
      ∧ r.2.mem ((c.tc : Thread nD τ).loc main_v5) = res2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r (h : _ ∧ _) => ⟨fun c =>
    ⟨⟨(h.1 c main_v3 (Pipeline.mem_restRefs_of main_v3 (by decide) (by decide))).trans (fin_v3 m c),
      (h.1 c main_v4 (Pipeline.mem_restRefs_of main_v4 (by decide) (by decide))).trans (fin_v4 m c),
      (h.1 c main_v5 (Pipeline.mem_restRefs_of main_v5 (by decide) (by decide))).trans (fin_v5 m c)⟩,
     (h.1 c main_arg0 (Pipeline.mem_restRefs_of main_arg0 (by decide) (by decide))).trans ((fin_keep m c main_arg0 (by decide) (by decide) (by decide)).trans ((mid_arg m c main_arg0 (by decide)).trans (V_main_arg0 m c))),
     (h.1 c main_arg1 (Pipeline.mem_restRefs_of main_arg1 (by decide) (by decide))).trans ((fin_keep m c main_arg1 (by decide) (by decide) (by decide)).trans ((mid_arg m c main_arg1 (by decide)).trans (V_main_arg1 m c))),
     (h.1 c main_arg2 (Pipeline.mem_restRefs_of main_arg2 (by decide) (by decide))).trans ((fin_keep m c main_arg2 (by decide) (by decide) (by decide)).trans ((mid_arg m c main_arg2 (by decide)).trans (V_main_arg2 m c)))⟩, h.2⟩)
    (run_all m ρ)

end Cert.Proof.IdealBody

end
-- ==== Proof.KernelNames.lean ====
/-
  The kernel's ring of weight blocks: the canonical names of its slots, cells and groups, the closed forms of the
  loop's offsets, and the pieces of memory the proof of the body is stated over.
-/
module

public import proofs.«01_k».proof.Defs
public import proofs.«01_k».proof.Proof.IdealRun
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KernelBody

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
/-- An equality of assertions, used as an entailment. -/
theorem entails_of_eq {P Q : sProp 𝕄} (e : P = Q) : P ⊢ Q := e ▸ .rfl

/-! ## Canonical names: block `b` of the weight, slot `s` of the ring, slot `s`'s cell -/

abbrev wM : Memref sig .tc .hbm S14336x4096 .fp8e4m3 := Memref.whole main_arg1
abbrev bufM : Memref sig .tc .vmem S16x256x4096 .fp8e4m3 := Memref.whole cc0_scratch2

abbrev grpOff (b : Fin 56) : Fin 2 → Nat := ![256 * b.val, 0]
theorem grpOff_inb (b : Fin 56) : ∀ a, grpOff b a + S256x4096.size a ≤ S14336x4096.size a := by
  have := b.isLt; intro a; fin_cases a
  · show 256 * b.val + 256 ≤ 14336; omega
  · show 0 + 4096 ≤ 4096; omega
abbrev slotOff (s : Fin 16) : Fin 3 → Nat := ![s.val, 0, 0]
theorem slotOff_inb (s : Fin 16) : ∀ a, slotOff s a + S1x256x4096.size a ≤ S16x256x4096.size a := by
  have := s.isLt; intro a; fin_cases a
  · show s.val + 1 ≤ 16; omega
  · show 0 + 256 ≤ 256; omega
  · show 0 + 4096 ≤ 4096; omega
abbrev semOff (s : Fin 16) : Fin 1 → Nat := ![s.val]
theorem semOff_inb (s : Fin 16) : ∀ a, semOff s a + S1.size a ≤ S16.size a := by
  have := s.isLt; intro a; fin_cases a; show s.val + 1 ≤ 16; omega

/-- Block `b` of the weight: its rows `256 b` to `256 b + 255`. -/
def grp (b : Fin 56) : Memref sig .tc .hbm S256x4096 .fp8e4m3 :=
  wM.slice (Rect.unit (s := S14336x4096) (grpOff b) S256x4096.size (grpOff_inb b)) (fun _ => rfl)
/-- Slot `s` of the ring, as the body slices and squeezes it. -/
def rslot (s : Fin 16) : Memref sig .tc .vmem S256x4096 .fp8e4m3 :=
  (bufM.slice (Rect.unit (s := S16x256x4096) (slotOff s) S1x256x4096.size (slotOff_inb s)) (fun _ => rfl)).squeeze S256x4096 squeezes_S1x256x4096_S256x4096
/-- Slot `s`'s semaphore. -/
def csm (s : Fin 16) : DmaSems sig S_ := (cc0_scratch8.slice (Rect.unit (s := S16) (semOff s) S1.size (semOff_inb s))).squeeze S_ squeezes_S1_S_

instance (s : Fin 16) : ClosedOff (slotOff s) := ⟨slotOff s, rfl⟩
instance (b : Fin 56) : ClosedOff (grpOff b) := ⟨grpOff b, rfl⟩

/-! ## The loop's offsets in closed form -/

section Chain
open Affine

theorem trips_eq : k0_t1_loop.trips = 56 := by decide

variable (k : Fin k0_t1_loop.trips)

theorem k_lt : k.val < 56 := Nat.lt_of_lt_of_eq k.isLt trips_eq
theorem isInt_iv : IsInt (Scf.iv 0#32 1#32 k.val) k.val :=
  iv (e := k.val) (ofNat (e := 0) 0 ⟨rfl, by decide⟩) (ofNat (e := 1) 1 ⟨rfl, by decide⟩) k.val ⟨by omega, by omega, by have := k_lt k; omega⟩
theorem isInt_rem : IsInt (Scalar.remsi (Scf.iv 0#32 1#32 k.val) 16#32) (k.val % 16 : Nat) :=
  remsi (e := (k.val % 16 : Nat)) (isInt_iv k) (ofNat (e := 16) 16 ⟨rfl, by decide⟩) ⟨by omega, by omega, by omega⟩
theorem isInt_row : IsInt (Scalar.muli (Scf.iv 0#32 1#32 k.val) 256#32) (256 * k.val : Nat) :=
  muli (e := (256 * k.val : Nat)) (isInt_iv k) (ofNat (e := 256) 256 ⟨rfl, by decide⟩) ⟨by push_cast; omega, by omega, by have := k_lt k; push_cast; omega⟩
theorem isInt_next : IsInt (Scalar.addi (Scf.iv 0#32 1#32 k.val) 16#32) (k.val + 16 : Nat) :=
  addi (e := (k.val + 16 : Nat)) (isInt_iv k) (ofNat (e := 16) 16 ⟨rfl, by decide⟩) ⟨by push_cast; omega, by omega, by have := k_lt k; push_cast; omega⟩
theorem isInt_nextrow : IsInt (Scalar.muli (Scalar.addi (Scf.iv 0#32 1#32 k.val) 16#32) 256#32) (256 * (k.val + 16) : Nat) :=
  muli (e := (256 * (k.val + 16) : Nat)) (isInt_next k) (ofNat (e := 256) 256 ⟨rfl, by decide⟩) ⟨by push_cast; omega, by omega, by have := k_lt k; push_cast; omega⟩
theorem isInt_two : IsInt (Scalar.muli 2#32 (Scf.iv 0#32 1#32 k.val)) (2 * k.val : Nat) :=
  muli (e := (2 * k.val : Nat)) (ofNat (e := 2) 2 ⟨rfl, by decide⟩) (isInt_iv k) ⟨by push_cast; omega, by omega, by have := k_lt k; push_cast; omega⟩

theorem off1_eq0 : k0_off1 k 0#32 = ![2 * k.val, 0] :=
  vec_cons (indexCast (addi (e := (2 * k.val : Nat)) (isInt_two k) (ofNat (e := 0) 0 ⟨rfl, by decide⟩) ⟨by omega, by omega, by have := k_lt k; push_cast; omega⟩)) rfl rfl
theorem off1_eq1 : k0_off1 k 1#32 = ![2 * k.val + 1, 0] :=
  vec_cons (indexCast (addi (e := (2 * k.val + 1 : Nat)) (isInt_two k) (ofNat (e := 1) 1 ⟨rfl, by decide⟩) ⟨by push_cast; omega, by omega, by have := k_lt k; push_cast; omega⟩)) rfl rfl
theorem off2_eq : k0_off2 k = semOff (Ring.sl 16 k.val) := vec_cons (isInt_rem k) (by simp [Ring.sl, Fin.ofNat]) vec_nil
theorem off3_eq : k0_off3 k = slotOff (Ring.sl 16 k.val) := vec_cons (isInt_rem k) (by simp [Ring.sl, Fin.ofNat]) rfl
theorem off4_eq : k0_off4 k = grpOff (Ring.bk 56 k.val) := vec_cons (isInt_row k) (by rw [Ring.bk_val (k_lt k)]) rfl
theorem off5_eq : k0_off5 k = slotOff (Ring.sl 16 k.val) := vec_cons (indexCast (isInt_rem k)) (by simp [Ring.sl, Fin.ofNat]) rfl
theorem off6_eq : k0_off6 k = ![0, 256 * k.val] :=
  (congrArg (fun y : Fin 1 → Nat => (Matrix.vecCons 0 y : Fin 2 → Nat)) (vec_cons (indexCast (isInt_row k)) rfl vec_nil : (![_] : Fin 1 → Nat) = ![256 * k.val]))
theorem off7_eq : k0_off7 k = semOff (Ring.sl 16 k.val) := vec_cons (isInt_rem k) (by simp [Ring.sl, Fin.ofNat]) vec_nil
theorem off8_eq : k0_off8 k = slotOff (Ring.sl 16 k.val) := vec_cons (isInt_rem k) (by simp [Ring.sl, Fin.ofNat]) rfl
theorem off9_eq (hk : k.val + 16 < 56) : k0_off9 k = grpOff (Ring.bk 56 (k.val + 16)) := vec_cons (isInt_nextrow k) (by rw [Ring.bk_val hk]) rfl
/-- The loop issues a further block exactly while one is left. -/
theorem cond_iff : k0_cond1 k = 1#1 ↔ k.val + 16 < 56 := by
  have h : ∀ j : Fin 56, k0_cond1 (j.cast trips_eq.symm) = 1#1 ↔ j.val + 16 < 56 := by decide
  exact h (k.cast trips_eq)

instance : ClosedOff (k0_off5 k) := ⟨slotOff (Ring.sl 16 k.val), off5_eq k⟩
instance : ClosedOff (k0_off6 k) := ⟨![0, 256 * k.val], off6_eq k⟩
instance : ClosedOff (k0_off1 k 0#32) := ⟨![2 * k.val, 0], off1_eq0 k⟩
instance : ClosedOff (k0_off1 k 1#32) := ⟨![2 * k.val + 1, 0], off1_eq1 k⟩

end Chain

/-! ### The canonical-name equations: the body's slices are `csm`, `rslot`, `grp` -/

section Canon

theorem csm_congr {off : Fin 1 → Nat} {s : Fin 16} (e : off = semOff s) (hh) :
    (cc0_scratch8.slice (Rect.unit (s := S16) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 16} (e : off = slotOff s) (hh hs) :
    (bufM.slice (Rect.unit (s := S16x256x4096) off S1x256x4096.size hh) hs).squeeze S256x4096 squeezes_S1x256x4096_S256x4096 = rslot s :=
  congrArg (fun M : Memref sig .tc .vmem S1x256x4096 .fp8e4m3 => M.squeeze S256x4096 squeezes_S1x256x4096_S256x4096) (Memref.slice_unit_congr _ e _ _ _ _)
theorem grp_congr {off : Fin 2 → Nat} {b : Fin 56} (e : off = grpOff b) (hh hs) :
    wM.slice (Rect.unit (s := S14336x4096) off S256x4096.size hh) hs = grp b := Memref.slice_unit_congr _ e _ _ _ (fun _ => rfl)

variable (k : Fin k0_t1_loop.trips)

/-- Trip `k`: cell and slot `k % 16`, block `k` waited, block `k + 16` issued. -/
@[sl_canon] theorem semK (hh) : (cc0_scratch8.slice (Rect.unit (s := S16) (k0_off2 k) S1.size hh)).squeeze S_ squeezes_S1_S_ = csm (Ring.sl 16 k.val) := csm_congr (off2_eq k) _
@[sl_canon] theorem semK' (hh) : (cc0_scratch8.slice (Rect.unit (s := S16) (k0_off7 k) S1.size hh)).squeeze S_ squeezes_S1_S_ = csm (Ring.sl 16 k.val) := csm_congr (off7_eq k) _
@[sl_canon] theorem slotK (hh hs) : (bufM.slice (Rect.unit (s := S16x256x4096) (k0_off3 k) S1x256x4096.size hh) hs).squeeze S256x4096 squeezes_S1x256x4096_S256x4096 = rslot (Ring.sl 16 k.val) := rslot_congr (off3_eq k) _ _
@[sl_canon] theorem slotK' (hh hs) : (bufM.slice (Rect.unit (s := S16x256x4096) (k0_off8 k) S1x256x4096.size hh) hs).squeeze S256x4096 squeezes_S1x256x4096_S256x4096 = rslot (Ring.sl 16 k.val) := rslot_congr (off8_eq k) _ _
@[sl_canon] theorem grpW (hh hs) : wM.slice (Rect.unit (s := S14336x4096) (k0_off4 k) S256x4096.size hh) hs = grp (Ring.bk 56 k.val) := grp_congr (off4_eq k) _ _
@[sl_canon] theorem grpI (hk : k.val + 16 < 56) (hh hs) : wM.slice (Rect.unit (s := S14336x4096) (k0_off9 k) S256x4096.size hh) hs = grp (Ring.bk 56 (k.val + 16)) := grp_congr (off9_eq k hk) _ _

end Canon

/-! ## The pieces: a block home, a slot held, a slot's cell, a slot in flight -/

section Pieces
variable (c : Dev nD) (XA : Buf (Elt F) (wM.view.loc (c : Thread nD τ)))

abbrev cellP (s : Fin 16) : sProp 𝕄 := semVal ((c : Thread nD τ), SemLoc.dma (csm s).sem) 0
abbrev slotP (s : Fin 16) (f : Buf (Elt F) ((rslot s).view.loc (c : Thread nD τ))) : sProp 𝕄 :=
  (rslot s).view.loc (c : Thread nD τ) ↦[(rslot s).view.set]{fullShare} f
/-- Block `b` home: held on its elements at the weight's contents. -/
abbrev homeP (b : Fin 56) : sProp 𝕄 := (grp b).view.loc (c : Thread nD τ) ↦[(grp b).view.set]{fullShare} XA
/-- Block `b`'s words as a slot's payload. -/
abbrev payload (b : Fin 56) : S256x4096.Idx → Elt F .fp8e4m3 := ReadAs.same.apply ((grp b).view.read (Elt F) XA)
/-- What block `b`'s transfer leaves in slot `s` over prior contents `f`: the block, written whole. -/
abbrev landed (s : Fin 16) (b : Fin 56) (f : Buf (Elt F) ((rslot s).view.loc (c : Thread nD τ))) : Buf (Elt F) ((rslot s).view.loc (c : Thread nD τ)) :=
  (rslot s).view.writes (Elt F) f [⟨Rect.whole S256x4096, payload c XA b⟩]
/-- The units a block's transfer moves on its cell. -/
abbrev NN (s : Fin 16) : ℕ := 32768
/-- Slot `s` in flight with block `b`, issued over `f`. -/
abbrev flightP (s : Fin 16) (b : Fin 56) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)

/-- The ring's role `n` (the slot that serves block `n`): in flight while block `n` exists, else free. -/
def role (n : ℕ) : sProp 𝕄 :=
  if n < 56 then iprop(∃ f, flightP c XA (Ring.sl 16 n) (Ring.bk 56 n) f)
  else iprop(cellP c (Ring.sl 16 n) ∗ ∃ f, slotP c (Ring.sl 16 n) f)
theorem role_flight {n : ℕ} (h : n < 56) : role c XA n = iprop(∃ f, flightP c XA (Ring.sl 16 n) (Ring.bk 56 n) f) := if_pos h
theorem role_free {n : ℕ} (h : ¬n < 56) : role c XA n = iprop(cellP c (Ring.sl 16 n) ∗ ∃ f, slotP c (Ring.sl 16 n) f) := if_neg h

/-- The roles before trip `k`: role `k` apart. -/
theorem roles_here (k : ℕ) : bigSep (Finset.Ico k (k + 16)) (role c XA) = iprop(role c XA k ∗ bigSep (Finset.Ico (k + 1) (k + 16)) (role c XA)) := by
  rw [Ring.Ico_eq_insert (show k < k + 16 by omega), bigSep_insert (by simp)]; rfl
/-- The roles before trip `k + 1`: the new role `k + 16` beside the same rest. -/
theorem roles_next (k : ℕ) : bigSep (Finset.Ico (k + 1) (k + 1 + 16)) (role c XA) = iprop(role c XA (k + 16) ∗ bigSep (Finset.Ico (k + 1) (k + 16)) (role c XA)) := by
  have e : Finset.Ico (k + 1) (k + 1 + 16) = insert (k + 16) (Finset.Ico (k + 1) (k + 16)) := by
    ext x; simp only [Finset.mem_Ico, Finset.mem_insert]; omega
  rw [e, bigSep_insert (by simp)]; rfl

/-- Trip `k`'s homes: block `k + 16` (about to go out) beside the rest. -/
theorem homes_here (k : ℕ) (hk : k + 16 < 56) :
    bigSep (Ring.homeSet 16 k) (homeP c XA) = iprop(homeP c XA (Ring.bk 56 (k + 16)) ∗ bigSep ((Ring.homeSet 16 k).erase (Ring.bk 56 (k + 16))) (homeP c XA)) := by
  conv_lhs => rw [Ring.homeSet_out 16 k hk, bigSep_insert (Ring.bkL_not_mem_erase 16 k)]
  rfl
/-- Trip `k + 1`'s homes: block `k` (just back) beside that rest. -/
theorem homes_next (k : ℕ) (hk : k + 16 < 56) :
    bigSep (Ring.homeSet 16 (k + 1)) (homeP c XA) = iprop(homeP c XA (Ring.bk 56 k) ∗ bigSep ((Ring.homeSet 16 k).erase (Ring.bk 56 (k + 16))) (homeP c XA)) := by
  conv_lhs => rw [Ring.homeSet_succ 16 k hk, bigSep_insert (Ring.bk_not_mem_erase 16 k (by omega) (by decide))]
  rfl
/-- The same once no further block goes out. -/
theorem homes_next_tail (k : ℕ) (hk : ¬k + 16 < 56) (h56 : k < 56) :
    bigSep (Ring.homeSet 16 (k + 1)) (homeP c XA) = iprop(homeP c XA (Ring.bk 56 k) ∗ bigSep (Ring.homeSet 16 k) (homeP c XA)) := by
  conv_lhs => rw [Ring.homeSet_succ_tail 16 k (by omega) h56, bigSep_insert (Ring.bk_not_mem_homeSet 16 k h56 (by decide))]
  rfl

/-- The flight a trip issues, as the executor states it: into the slot as the previous block's transfer left it, the
    new payload consed on. -/
theorem flightP_after (s : Fin 16) (b b' : Fin 56) :
    flightP c XA s b' ((rslot s).view.writes (Elt F) (rslot s).view.junk [⟨Rect.whole S256x4096, payload c XA b⟩])
      = Transfers.Flight countersEmb (c : Thread nD τ) (SemLoc.dma (csm s).sem) () 32768
          iprop(((rslot s).view.loc (c : Thread nD τ) ↦[(rslot s).view.set]{fullShare}
                  (rslot s).view.writes (Elt F) (rslot s).view.junk [⟨Rect.whole S256x4096, payload c XA b'⟩, ⟨Rect.whole S256x4096, payload c XA b⟩])
                ∗ homeP c XA b') := by
  simp only [flightP, landed, slotP, NN, View.writes]

end Pieces

end Cert.Proof.KernelBody

end
-- ==== Proof.KernelTrip.lean ====
/-
  One trip of the kernel's loop at a symbolic trip, and the loop's invariant.
-/
module

public import proofs.«01_k».proof.Proof.KernelNames

@[expose] public section

noncomputable section

namespace Cert.Proof.KernelBody

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev xdM : Memref sig .tc .vmem S24x4096 .f32 := Memref.whole cc0_scratch5
abbrev wsxM : Memref sig .tc .vmem S112x4096 .f32 := Memref.whole cc0_scratch6
abbrev yM : Memref sig .tc .vmem S24x14336 .bf16 := Memref.whole cc0_scratch7

section Trip
variable (c : Dev nD) (XA : Buf (Elt F) (wM.view.loc (c : Thread nD τ)))
  (XD : Buf (Elt F) (xdM.view.loc (c : Thread nD τ))) (WS : Buf (Elt F) (wsxM.view.loc (c : Thread nD τ)))

abbrev xdP : sProp 𝕄 := xdM.view.loc (c : Thread nD τ) ↦[xdM.view.set]{fullShare} XD
abbrev wsxP : sProp 𝕄 := wsxM.view.loc (c : Thread nD τ) ↦[wsxM.view.set]{fullShare} WS
abbrev yP (f : Buf (Elt F) (yM.view.loc (c : Thread nD τ))) : sProp 𝕄 := yM.view.loc (c : Thread nD τ) ↦[yM.view.set]{fullShare} f

/-- The resources before trip `k`, `y`'s buffer at `f`. -/
def resAt (k : ℕ) (f : Buf (Elt F) (yM.view.loc (c : Thread nD τ))) : sProp 𝕄 :=
  iprop(xdP c XD ∗ wsxP c WS ∗ yP c f ∗ (∃ W, owes (c : Thread nD τ) 0 W)
    ∗ bigSep (Ring.homeSet 16 k) (homeP c XA) ∗ bigSep (Finset.Ico k (k + 16)) (role c XA))

/-- Columns `256 k` to `256 k + 255` of `y`. -/
abbrev RY (k : Fin k0_t1_loop.trips) : Rect S24x14336 := Rect.unit (s := S24x14336) (k0_off6 k) S24x256.size (k0_off6_inb k)

abbrev tripG (k : Fin k0_t1_loop.trips) : Prog (TpuEff nD τ sig (Elt F) Λ₀ .tc) Unit :=
  k0_t1_body (F := F) (Memref.whole main_v0) (Memref.isWhole_whole _) wM (Memref.isWhole_whole _) (Memref.whole main_v1) (Memref.isWhole_whole _)
    (Memref.whole main_v2_0) (Memref.isWhole_whole _) (Memref.whole main_v2_1) (Memref.isWhole_whole _) (Memref.whole main_v2_2) (Memref.isWhole_whole _)
    (Memref.whole cc0_scratch0) (Memref.isWhole_whole _) (Memref.whole cc0_scratch1) (Memref.isWhole_whole _) bufM (Memref.isWhole_whole _)
    (Memref.whole cc0_scratch3) (Memref.isWhole_whole _) (Memref.whole cc0_scratch4) (Memref.isWhole_whole _) xdM (Memref.isWhole_whole _)
    wsxM (Memref.isWhole_whole _) yM (Memref.isWhole_whole _) cc0_scratch8 cc0_scratch9 k ()

/-- What trip `k` stores: its columns of `y`, from the two rows of scales and block `k` of the weight. -/
def tripPay (k : Fin k0_t1_loop.trips) : FVec F S24x256 .bf16 :=
  k0_pay2 (xdM.view.readAt (Elt F) (Rect.unit (s := S24x4096) ![0, 0] S24x4096.size inb_S24x4096_S24x4096_0_0).toLoadRect XD)
    (wsxM.view.readAt (Elt F) (Rect.unit (s := S112x4096) (k0_off1 k 0#32) S1x4096.size (k0_off1_inb k 0)).toLoadRect WS)
    (wsxM.view.readAt (Elt F) (Rect.unit (s := S112x4096) (k0_off1 k 1#32) S1x4096.size (k0_off1_inb k 1)).toLoadRect WS)
    (bufM.view.readAt (Elt F) (Rect.unit (s := S16x256x4096) (k0_off5 k) S1x256x4096.size (k0_off5_inb k)).toLoadRect
      (landed c XA (Ring.sl 16 k.val) (Ring.bk 56 k.val) (rslot (Ring.sl 16 k.val)).view.junk))

/-- One trip at a symbolic `k`: wait block `k` in slot `k % 16`, store its columns of `y`, and issue block `k + 16` into
    the slot while there is one. -/
theorem tripRun (k : Fin k0_t1_loop.trips) (f : Buf (Elt F) (yM.view.loc (c : Thread nD τ))) :
    resAt c XA XD WS k f ⊢ wp frame (wpE (defs₀ (F := F)) 𝒱₀ (c : Thread nD τ) none) Set.univ (tripG k)
        (fun _ => resAt c XA XD WS (k.val + 1) (yM.view.writes (Elt F) f [⟨RY k, tripPay c XA XD WS k⟩])) := by
  have hk := k_lt k
  by_cases h : k.val + 16 < 56
  · have hc : k0_cond1 k = 1#1 := (cond_iff k).2 h
    unfold resAt
    rw [homes_here c XA k.val h, homes_next c XA k.val h, roles_here, roles_next, role_flight c XA hk, role_flight c XA h, Ring.sl_add]
    iintro ⟨HX, HS, HY, ⟨%W, HW⟩, ⟨Hg, Hrest⟩, ⟨%f0, HF⟩, Hroles⟩
    dsimp only [tripG]
    sl_unfold [k0_t1_body]
    sl_exec
    sl_step
    isplitl [HX]; · iexact HX
    isplitl [HS]; · iexact HS
    isplitl [HY]; · iexact HY
    isplitl [HW]; · iexists _; iexact HW
    isplitl [HF_src Hrest]
    · isplitl [HF_src]; · iexact HF_src
      iexact Hrest
    isplitl [HF]
    · iexists ((rslot (Ring.sl 16 k.val)).view.writes (Elt F) (rslot (Ring.sl 16 k.val)).view.junk [⟨Rect.whole S256x4096, payload c XA (Ring.bk 56 k.val)⟩])
      irw [flightP_after]
      iexact HF
    iexact Hroles
  · have hc : ¬k0_cond1 k = 1#1 := fun e => h ((cond_iff k).1 e)
    unfold resAt
    rw [homes_next_tail c XA k.val h hk, roles_here, roles_next, role_flight c XA hk, role_free c XA h, Ring.sl_add]
    iintro ⟨HX, HS, HY, ⟨%W, HW⟩, Hrest, ⟨%f0, HF⟩, Hroles⟩
    dsimp only [tripG]
    sl_unfold [k0_t1_body]
    sl_exec
    sl_step
    isplitl [HX]; · iexact HX
    isplitl [HS]; · iexact HS
    isplitl [HY]; · iexact HY
    isplitl [HW]; · iexists _; iexact HW
    isplitl [HF_src Hrest]
    · isplitl [HF_src]; · iexact HF_src
      iexact Hrest
    isplitl [HF HF_dst]
    · isplitl [HF]; · iexact HF
      iexists _; iexact HF_dst
    iexact Hroles

/-- `y`'s buffer before trip `k`, from its contents `y0` at the loop's entry: each trip's columns written in turn. -/
def yAcc (y0 : Buf (Elt F) (yM.view.loc (c : Thread nD τ))) : ℕ → Buf (Elt F) (yM.view.loc (c : Thread nD τ))
  | 0 => y0
  | k + 1 => if h : k < k0_t1_loop.trips then yM.view.writes (Elt F) (yAcc y0 k) [⟨RY ⟨k, h⟩, tripPay c XA XD WS ⟨k, h⟩⟩] else yAcc y0 k

set_option warn.classDefReducibility false in
/-- The loop's invariant: the ring at trip `k`, `y`'s buffer at the trips before `k`. -/
def loopInv (y0 : Buf (Elt F) (yM.view.loc (c : Thread nD τ))) :
    LoopInvTy_k0_t1 (F := F) Unit ℕ (UU nD τ) ℕ 𝒱₀ c none Set.univ (Memref.whole main_v0) (Memref.isWhole_whole _) wM (Memref.isWhole_whole _) (Memref.whole main_v1) (Memref.isWhole_whole _)
    (Memref.whole main_v2_0) (Memref.isWhole_whole _) (Memref.whole main_v2_1) (Memref.isWhole_whole _) (Memref.whole main_v2_2) (Memref.isWhole_whole _)
    (Memref.whole cc0_scratch0) (Memref.isWhole_whole _) (Memref.whole cc0_scratch1) (Memref.isWhole_whole _) bufM (Memref.isWhole_whole _)
    (Memref.whole cc0_scratch3) (Memref.isWhole_whole _) (Memref.whole cc0_scratch4) (Memref.isWhole_whole _) xdM (Memref.isWhole_whole _)
    wsxM (Memref.isWhole_whole _) yM (Memref.isWhole_whole _) cc0_scratch8 cc0_scratch9 where
  inv k _ := resAt c XA XD WS k (yAcc c XA XD WS y0 k)
  step k _ := by
    have e : yAcc c XA XD WS y0 (k.val + 1) = yM.view.writes (Elt F) (yAcc c XA XD WS y0 k) [⟨RY k, tripPay c XA XD WS k⟩] := by
      rw [yAcc, dif_pos k.isLt]
    rw [e]
    exact tripRun c XA XD WS k _

end Trip

end Cert.Proof.KernelBody

end
-- ==== Proof.KernelQuant.lean ====
/-
  What the kernel's prologue leaves in its buffers: every group of 128 activations quantised alike, the weight's
  scales spread along the lanes of their group.
-/
module

public import proofs.«01_k».proof.Proof.KernelTrip
public import Idealize.ShloMosaic.Lib.Pipeline.ReadBack
public import Idealize.ShloMosaic.Lib.Pipeline.Value

@[expose] public section

noncomputable section

namespace Cert.Proof.KernelBody

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Whole buffers -/

omit [FloatOps F] in
/-- A whole buffer written over at once holds what was written. -/
theorem whole_writes (c : Dev nD) (b : Ref sig .tc) (f : Buf (Elt F) ((Memref.whole b).view.loc (c : Thread nD τ))) (P : b.ty.shape.Idx → Elt F b.ty.elt) :
    (Memref.whole b).view.writes (Elt F) f [⟨Rect.whole b.ty.shape, P⟩] = P := by
  show View.read (Elt F) (View.whole b) ((View.whole b).writes (Elt F) f [⟨Rect.whole b.ty.shape, P⟩]) = P
  funext y
  have h := View.read_writes_cons_emb (View.whole b) f (Rect.whole b.ty.shape) P [] y
  rwa [Rect.emb_whole_apply] at h

/-- A whole buffer written piece by piece, the pieces covering it and each a part of `G`, holds `G`. -/
theorem whole_pieces (b : Ref sig .tc) (f : (Memref.whole b).view.ty.Contents (Elt F)) (L : List (View.Piece (Elt F) b.ty.shape b.ty.elt)) (G : b.ty.shape.Idx → Elt F b.ty.elt)
    (h : ∀ p ∈ L, ∀ x : p.1.shape.Idx, p.2 x = G (p.1.emb x)) (hc : ∀ y, ∃ p ∈ L, y ∈ p.1.set) :
    (Memref.whole b).view.writes (Elt F) f L = G :=
  funext fun y => View.read_writes_apply_of_pieces (v := View.whole b) (f := f) G L h y (hc y)

/-! ## One group of the activations -/

/-- A group's scale: two to the exponent of its greatest magnitude over 448, plus one. -/
def gScale (x : Vec F S24x128 .bf16) : FVec F S24x1 .f32 := k0_pay45 (k0_pay41 x) (k0_pay42 x) k0_pay43
/-- A group's codes. -/
def gCodes (x : Vec F S24x128 .bf16) : FVec F S24x128 .fp8e4m3 := k0_pay47 (k0_pay40 x) (k0_pay41 x) (k0_pay42 x) k0_pay43
/-- A group's activations read back from its codes and scale. -/
def gXd (x : Vec F S24x128 .bf16) : FVec F S24x128 .f32 := k0_pay48 (k0_pay40 x) (k0_pay41 x) (k0_pay42 x) k0_pay43
/-- A group's scale put in its lane of the scales. -/
def gSel (g : ℕ) (prev : FVec F S24x32 .f32) (s : FVec F S24x1 .f32) : FVec F S24x32 .f32 :=
  select (cmpi .eq (iota .tc S24x32 32 [1] iota_S24x32_d1_w32) (broadcast S24x32 (BitVec.ofNat 32 g)))
    (broadcastTo S24x32 (shapeCast S24x1 s shapeCasts_S24x1_S24x1) broadcasts_S24x1_S24x32) prev

/-! ## The groups' tiles -/

theorem inbT (n : ℕ) : ∀ a, (![0, 128 * (n % 32)] : Fin 2 → ℕ) a + S24x128.size a ≤ S24x4096.size a := by
  intro a; fin_cases a
  · show 0 + 24 ≤ 24; omega
  · show 128 * (n % 32) + 128 ≤ 4096; omega
theorem inbS (n : ℕ) : ∀ a, (![0, 128 * (n % 32)] : Fin 2 → ℕ) a + S112x128.size a ≤ S112x4096.size a := by
  intro a; fin_cases a
  · show 0 + 112 ≤ 112; omega
  · show 128 * (n % 32) + 128 ≤ 4096; omega
/-- Group `n`'s tile: columns `128 n` to `128 n + 127`. -/
abbrev tile (n : ℕ) : Rect S24x4096 := Rect.unit (s := S24x4096) ![0, 128 * (n % 32)] S24x128.size (inbT n)
abbrev tileS (n : ℕ) : Rect S112x4096 := Rect.unit (s := S112x4096) ![0, 128 * (n % 32)] S112x128.size (inbS n)

/-- Group `n` of the activations. -/
def blk {α : Type} (X : S24x4096.Idx → α) (n : ℕ) : S24x128.Idx → α := fun i => X ((tile n).emb i)
/-- A column's place in its group. -/
def locT (y : S24x4096.Idx) : S24x128.Idx := fun a => ⟨(![(y 0).val, (y 1).val % 128] : Fin 2 → ℕ) a, by
  fin_cases a
  · exact (y 0).isLt
  · exact Nat.mod_lt _ (by decide : (0 : ℕ) < 128)⟩
/-- A column's group. -/
abbrev grpT (y : S24x4096.Idx) : ℕ := (y 1).val / 128

theorem tile_emb0 (n : ℕ) (x : S24x128.Idx) : ((tile n).emb x 0).val = (x 0).val := by
  rw [Rect.emb_apply]; show 0 + 1 * (x 0).val = _; omega
theorem tile_emb1 (n : ℕ) (x : S24x128.Idx) : ((tile n).emb x 1).val = 128 * (n % 32) + (x 1).val := by
  rw [Rect.emb_apply]; show 128 * (n % 32) + 1 * (x 1).val = _; omega
theorem locT_emb (n : ℕ) (x : S24x128.Idx) : locT ((tile n).emb x) = x := by
  funext a; apply Fin.ext
  have h1 : (x 1).val < 128 := (x 1).isLt
  fin_cases a
  · exact tile_emb0 n x
  · show ((tile n).emb x 1).val % 128 = (x 1).val
    rw [tile_emb1]; omega
theorem grpT_emb (n : ℕ) (x : S24x128.Idx) : grpT ((tile n).emb x) = n % 32 := by
  have h1 : (x 1).val < 128 := (x 1).isLt
  show ((tile n).emb x 1).val / 128 = _
  rw [tile_emb1]; omega
theorem blk_mod {α : Type} (X : S24x4096.Idx → α) (n : ℕ) : blk X (n % 32) = blk X n := by
  funext i; unfold blk; congr 1; funext a; apply Fin.ext
  fin_cases a
  · exact (tile_emb0 _ i).trans (tile_emb0 _ i).symm
  · exact (tile_emb1 _ i).trans ((show 128 * (n % 32 % 32) + (i 1).val = 128 * (n % 32) + (i 1).val by rw [Nat.mod_mod]).trans (tile_emb1 _ i).symm)

/-- The groups, as the kernel stores them (the last first). -/
abbrev groups : List ℕ := [31, 30, 29, 28, 27, 26, 25, 24, 23, 22, 21, 20, 19, 18, 17, 16, 15, 14, 13, 12, 11, 10, 9, 8, 7, 6, 5, 4, 3, 2, 1, 0]
theorem mem_groups {n : ℕ} (h : n < 32) : n ∈ groups := by
  have : ∀ m : Fin 32, m.val ∈ groups := by decide
  exact this ⟨n, h⟩

/-- A function of every group, laid over all the columns. -/
def spread {α β : Type} (f : (S24x128.Idx → α) → S24x128.Idx → β) (X : S24x4096.Idx → α) : S24x4096.Idx → β :=
  fun y => f (blk X (grpT y)) (locT y)
theorem spread_emb {α β : Type} (f : (S24x128.Idx → α) → S24x128.Idx → β) (X : S24x4096.Idx → α) (n : ℕ) (x : S24x128.Idx) :
    spread f X ((tile n).emb x) = f (blk X n) x := by
  unfold spread; rw [grpT_emb, locT_emb, blk_mod]
theorem tile_cover (y : S24x4096.Idx) : y ∈ (tile (grpT y)).set := by
  have h0 : (y 0).val < 24 := (y 0).isLt
  have h1 : (y 1).val < 4096 := (y 1).isLt
  rw [Rect.mem_set_unit]; intro a
  have e : (y 1).val / 128 % 32 = (y 1).val / 128 := Nat.mod_eq_of_lt (by omega)
  fin_cases a
  · show 0 ≤ (y 0).val ∧ (y 0).val < 0 + 24; omega
  · show 128 * ((y 1).val / 128 % 32) ≤ (y 1).val ∧ (y 1).val < 128 * ((y 1).val / 128 % 32) + 128
    rw [e]; omega

section Run
variable (c : Dev nD)

/-- Group `n` as the body loads it from its copy of the activations. -/
abbrev ldX (XV : Buf (Elt F) ((Memref.whole main_v0).view.loc (c : Thread nD τ))) (n : ℕ) : Vec F S24x128 .bf16 :=
  (Memref.whole cc0_scratch0).view.readCov (Val := Elt F) [⟨Rect.whole cc0_scratch0.ty.shape, ReadAs.same.apply (View.read (Elt F) (Memref.whole main_v0).view XV)⟩] (tile n).toLoadRect
theorem ldX_eq (XV : Buf (Elt F) ((Memref.whole main_v0).view.loc (c : Thread nD τ))) (n : ℕ) : ldX c XV n = blk (α := Elt F .bf16) XV n := by
  unfold ldX
  rw [View.readCov_eq_canon']
  funext i
  have h := View.canon_cons_emb (Val := Elt F) (Rect.whole cc0_scratch0.ty.shape) (ReadAs.same.apply (View.read (Elt F) (Memref.whole main_v0).view XV)) [] ((tile n).emb i)
  rw [Rect.emb_whole_apply] at h
  exact h

/-- The codes' stores. -/
abbrev codeList (XV : Buf (Elt F) ((Memref.whole main_v0).view.loc (c : Thread nD τ))) : List (View.Piece (Elt F) S24x4096 .fp8e4m3) :=
  groups.map fun n => ⟨tile n, gCodes (ldX c XV n)⟩
/-- The read-back activations' stores. -/
abbrev xdList (XV : Buf (Elt F) ((Memref.whole main_v0).view.loc (c : Thread nD τ))) : List (View.Piece (Elt F) S24x4096 .f32) :=
  groups.map fun n => ⟨tile n, gXd (ldX c XV n)⟩
/-- The scales after the first `n` groups. -/
def scaleAcc (XV : Buf (Elt F) ((Memref.whole main_v0).view.loc (c : Thread nD τ))) : ℕ → FVec F S24x32 .f32
  | 0 => k0_pay39
  | n + 1 => gSel n (scaleAcc XV n) (gScale (ldX c XV n))

/-- The codes. -/
def codesV (X : S24x4096.Idx → Elt F .bf16) : S24x4096.Idx → Elt F .fp8e4m3 := spread (fun x => gCodes (F := F) x) X
/-- The activations read back. -/
def xdV (X : S24x4096.Idx → Elt F .bf16) : S24x4096.Idx → Elt F .f32 := spread (fun x => gXd (F := F) x) X

theorem groups_cover {e : EltTy} (P : (n : ℕ) → (tile n).shape.Idx → Elt F e) (y : S24x4096.Idx) :
    ∃ p ∈ (groups.map fun n => (⟨tile n, P n⟩ : View.Piece (Elt F) S24x4096 e)), y ∈ p.1.set :=
  ⟨_, List.mem_map.2 ⟨grpT y, mem_groups (by have h1 : (y 1).val < 4096 := (y 1).isLt; show (y 1).val / 128 < 32; omega), rfl⟩, tile_cover y⟩

theorem codes_writes (XV) (f : (Memref.whole cc0_scratch3).view.ty.Contents (Elt F)) :
    (Memref.whole cc0_scratch3).view.writes (Elt F) f (codeList c XV) = codesV (F := F) XV :=
  whole_pieces cc0_scratch3 f (codeList c XV) (codesV (F := F) XV)
    (by
      intro p hp x
      obtain ⟨n, -, rfl⟩ := List.mem_map.1 hp
      exact ((spread_emb (fun x => gCodes (F := F) x) XV n x).trans (by rw [← ldX_eq])).symm)
    (groups_cover _)
theorem xd_writes (XV) (f : (Memref.whole cc0_scratch5).view.ty.Contents (Elt F)) :
    (Memref.whole cc0_scratch5).view.writes (Elt F) f (xdList c XV) = xdV (F := F) XV :=
  whole_pieces cc0_scratch5 f (xdList c XV) (xdV (F := F) XV)
    (by
      intro p hp x
      obtain ⟨n, -, rfl⟩ := List.mem_map.1 hp
      exact ((spread_emb (fun x => gXd (F := F) x) XV n x).trans (by rw [← ldX_eq])).symm)
    (groups_cover _)

/-! ## The weight's scales -/

/-- The weight's scales as the body loads them. -/
abbrev ldW (WV : Buf (Elt F) ((Memref.whole main_v1).view.loc (c : Thread nD τ))) : Vec F S32x112 .f32 :=
  (Memref.whole cc0_scratch1).view.readCov (Val := Elt F) [⟨Rect.whole cc0_scratch1.ty.shape, ReadAs.same.apply (View.read (Elt F) (Memref.whole main_v1).view WV)⟩]
    (Rect.unit (s := S32x112) ![0, 0] S32x112.size inb_S32x112_S32x112_0_0).toLoadRect
theorem ldW_eq (WV : Buf (Elt F) ((Memref.whole main_v1).view.loc (c : Thread nD τ))) : ldW c WV = WV := by
  unfold ldW
  rw [View.readCov_eq_canon']
  funext i
  have h := View.canon_cons_emb (Val := Elt F) (Rect.whole cc0_scratch1.ty.shape) (ReadAs.same.apply (View.read (Elt F) (Memref.whole main_v1).view WV)) []
    ((Rect.unit (s := S32x112) ![0, 0] S32x112.size inb_S32x112_S32x112_0_0).emb i)
  rw [Rect.emb_whole_apply] at h
  refine h.trans ?_
  show WV ((Rect.unit (s := S32x112) ![0, 0] S32x112.size inb_S32x112_S32x112_0_0).emb i) = WV i
  congr 1; funext a; apply Fin.ext; refine (Rect.emb_apply _ i a).trans ?_; fin_cases a
  · show 0 + 1 * (i 0).val = (i 0).val; omega
  · show 0 + 1 * (i 1).val = (i 1).val; omega

theorem sliceOK (n : ℕ) : S112x32.Slices ![0, n % 32] S112x1 :=
  ⟨rfl, by
    intro a; fin_cases a
    · show 0 + 112 ≤ 112; omega
    · show n % 32 + 1 ≤ 32; omega⟩
/-- Group `n`'s scales, the same on all its lanes. -/
def slab (w : FVec F S112x32 .f32) (n : ℕ) : FVec F S112x128 .f32 :=
  shapeCast S112x128 (broadcastTo S112x128 (shapeCast S112x1 (extractStridedSlice S112x1 ![0, n % 32] w (sliceOK n)) shapeCasts_S112x1_S112x1) broadcasts_S112x1_S112x128) shapeCasts_S112x128_S112x128
/-- Their stores. -/
abbrev wsxList (WV : Buf (Elt F) ((Memref.whole main_v1).view.loc (c : Thread nD τ))) : List (View.Piece (Elt F) S112x4096 .f32) :=
  groups.map fun n => ⟨tileS n, slab (k0_pay3 (ldW c WV)) n⟩
/-- A lane's scale. -/
def ixS (y : S112x4096.Idx) : S112x32.Idx := fun a => ⟨(![(y 0).val, (y 1).val / 128] : Fin 2 → ℕ) a, by
  fin_cases a
  · exact (y 0).isLt
  · have h1 : (y 1).val < 4096 := (y 1).isLt
    show (y 1).val / 128 < 32; omega⟩
/-- The weight's scales spread along the lanes. -/
def wsxV (WV : S32x112.Idx → Elt F .f32) : S112x4096.Idx → Elt F .f32 := fun y => k0_pay3 (F := F) WV (ixS y)

theorem tileS_emb0 (n : ℕ) (x : S112x128.Idx) : ((tileS n).emb x 0).val = (x 0).val := by
  rw [Rect.emb_apply]; show 0 + 1 * (x 0).val = _; omega
theorem tileS_emb1 (n : ℕ) (x : S112x128.Idx) : ((tileS n).emb x 1).val = 128 * (n % 32) + (x 1).val := by
  rw [Rect.emb_apply]; show 128 * (n % 32) + 1 * (x 1).val = _; omega

theorem slab_apply (w : FVec F S112x32 .f32) (n : ℕ) (x : S112x128.Idx) : slab w n x = w (ixS ((tileS n).emb x)) := by
  have h1 : (x 1).val < 128 := (x 1).isLt
  unfold slab
  rw [shapeCast_self, shapeCast_self]
  show w _ = w _
  congr 1; funext a; apply Fin.ext
  fin_cases a
  · show 0 + (x 0).val = ((tileS n).emb x 0).val
    rw [tileS_emb0]; omega
  · show n % 32 + 0 = ((tileS n).emb x 1).val / 128
    rw [tileS_emb1]; omega

theorem wsx_writes (WV) (f : (Memref.whole cc0_scratch6).view.ty.Contents (Elt F)) :
    (Memref.whole cc0_scratch6).view.writes (Elt F) f (wsxList c WV) = wsxV (F := F) WV :=
  whole_pieces cc0_scratch6 f (wsxList c WV) (wsxV (F := F) WV)
    (by
      intro p hp x
      obtain ⟨n, -, rfl⟩ := List.mem_map.1 hp
      refine (slab_apply (F := F) (k0_pay3 (ldW c WV)) n x).trans ?_
      rw [ldW_eq]; rfl)
    (by
      intro y
      have h0 : (y 0).val < 112 := (y 0).isLt
      have h1 : (y 1).val < 4096 := (y 1).isLt
      refine ⟨_, List.mem_map.2 ⟨(y 1).val / 128, mem_groups (by omega), rfl⟩, ?_⟩
      rw [Rect.mem_set_unit]; intro a
      have e : (y 1).val / 128 % 32 = (y 1).val / 128 := Nat.mod_eq_of_lt (by omega)
      fin_cases a
      · show 0 ≤ (y 0).val ∧ (y 0).val < 0 + 112; omega
      · show 128 * ((y 1).val / 128 % 32) ≤ (y 1).val ∧ (y 1).val < 128 * ((y 1).val / 128 % 32) + 128
        rw [e]; omega)

/-! ## The products -/

/-- A column of the products: its place in its block. -/
def locY (y : S24x14336.Idx) : S24x256.Idx := fun a => ⟨(![(y 0).val, (y 1).val % 256] : Fin 2 → ℕ) a, by
  fin_cases a
  · exact (y 0).isLt
  · exact Nat.mod_lt _ (by decide : (0 : ℕ) < 256)⟩
theorem blkY_lt (y : S24x14336.Idx) : (y 1).val / 256 < k0_t1_loop.trips := by
  have h1 : (y 1).val < 14336 := (y 1).isLt
  rw [trips_eq]; omega
/-- The products after the loop: column `j` from trip `j / 256`. -/
def yOf (XA : Buf (Elt F) (wM.view.loc (c : Thread nD τ))) (XD : Buf (Elt F) (xdM.view.loc (c : Thread nD τ))) (WS : Buf (Elt F) (wsxM.view.loc (c : Thread nD τ))) :
    S24x14336.Idx → Elt F .bf16 := fun y => tripPay c XA XD WS ⟨(y 1).val / 256, blkY_lt y⟩ (locY y)

theorem RY_emb0 (k : Fin k0_t1_loop.trips) (x : S24x256.Idx) : ((RY k).emb x 0).val = (x 0).val := by
  rw [Rect.emb_apply]; show k0_off6 k 0 + 1 * (x 0).val = _; rw [off6_eq]; show 0 + 1 * (x 0).val = _; omega
theorem RY_emb1 (k : Fin k0_t1_loop.trips) (x : S24x256.Idx) : ((RY k).emb x 1).val = 256 * k.val + (x 1).val := by
  rw [Rect.emb_apply]; show k0_off6 k 1 + 1 * (x 1).val = _; rw [off6_eq]; show 256 * k.val + 1 * (x 1).val = _; omega
theorem RY_mem (k : Fin k0_t1_loop.trips) (y : S24x14336.Idx) : y ∈ (RY k).set ↔ (y 1).val / 256 = k.val := by
  have h0 : (y 0).val < 24 := (y 0).isLt
  rw [Rect.mem_set_unit, off6_eq]
  constructor
  · intro h
    have h1 : 256 * k.val ≤ (y 1).val ∧ (y 1).val < 256 * k.val + 256 := h 1
    omega
  · intro h a; fin_cases a
    · show 0 ≤ (y 0).val ∧ (y 0).val < 0 + 24; omega
    · show 256 * k.val ≤ (y 1).val ∧ (y 1).val < 256 * k.val + 256; omega

/-- Before trip `n`, the columns of the earlier trips hold their products. -/
theorem yAcc_apply (XA : Buf (Elt F) (wM.view.loc (c : Thread nD τ))) (XD : Buf (Elt F) (xdM.view.loc (c : Thread nD τ))) (WS : Buf (Elt F) (wsxM.view.loc (c : Thread nD τ))) (y0 : Buf (Elt F) (yM.view.loc (c : Thread nD τ))) (n : ℕ) (hn : n ≤ 56) (y : S24x14336.Idx) (hy : (y 1).val / 256 < n) :
    View.read (Elt F) yM.view (yAcc c XA XD WS y0 n) y = yOf c XA XD WS y := by
  induction n with
  | zero => omega
  | succ k ih =>
    have hk : k < k0_t1_loop.trips := by rw [trips_eq]; omega
    rw [yAcc, dif_pos hk]
    by_cases h : (y 1).val / 256 = k
    · obtain ⟨x, rfl⟩ := (RY ⟨k, hk⟩).exists_idx_of_mem ((RY_mem ⟨k, hk⟩ y).2 h)
      change View.read (Elt F) yM.view _ ((RY ⟨k, hk⟩).emb x) = yOf c XA XD WS ((RY ⟨k, hk⟩).emb x)
      rw [View.read_writes_cons_emb]
      have h1 : (x 1).val < 256 := (x 1).isLt
      have e1 : ((RY ⟨k, hk⟩).emb x 1).val / 256 = k := by rw [RY_emb1]; show (256 * k + _) / 256 = k; omega
      have e2 : locY ((RY ⟨k, hk⟩).emb x) = x := by
        funext a; apply Fin.ext; fin_cases a
        · exact RY_emb0 _ x
        · show ((RY ⟨k, hk⟩).emb x 1).val % 256 = (x 1).val
          rw [RY_emb1]; show (256 * k + _) % 256 = _; omega
      unfold yOf; rw [e2, show (⟨((RY ⟨k, hk⟩).emb x 1).val / 256, blkY_lt _⟩ : Fin k0_t1_loop.trips) = ⟨k, hk⟩ from Fin.ext e1]
    · rw [View.writes_cons, View.read_slice_write_of_not_mem _ _ _ _ (by rw [Rect.map_emb_univ, RY_mem]; exact h), View.writes_nil]
      exact ih (by omega) (by omega)
theorem yAcc_last (XA : Buf (Elt F) (wM.view.loc (c : Thread nD τ))) (XD : Buf (Elt F) (xdM.view.loc (c : Thread nD τ))) (WS : Buf (Elt F) (wsxM.view.loc (c : Thread nD τ))) (y0 : Buf (Elt F) (yM.view.loc (c : Thread nD τ))) (n : ℕ) (hn : n = 56) :
    yAcc c XA XD WS y0 n = yOf c XA XD WS :=
  funext fun y => yAcc_apply c XA XD WS y0 n (by omega) y (by have h1 : (y 1).val < 14336 := (y 1).isLt; omega)

/-- The ring after the loop: every block home, every slot free, the products stored. -/
theorem resAt_last (XA : Buf (Elt F) (wM.view.loc (c : Thread nD τ))) (XD : Buf (Elt F) (xdM.view.loc (c : Thread nD τ))) (WS : Buf (Elt F) (wsxM.view.loc (c : Thread nD τ))) (y0 : Buf (Elt F) (yM.view.loc (c : Thread nD τ))) : resAt c XA XD WS k0_t1_loop.trips (yAcc c XA XD WS y0 k0_t1_loop.trips)
    = iprop(xdP c XD ∗ wsxP c WS ∗ yP c (yOf c XA XD WS) ∗ (∃ W, owes (c : Thread nD τ) 0 W)
        ∗ bigSep Finset.univ (homeP c XA) ∗ bigSep (Finset.Ico 56 (56 + 16)) (role c XA)) := by
  unfold resAt
  rw [yAcc_last c XA XD WS y0 _ trips_eq, trips_eq, Ring.homeSet_last 16 56 le_rfl]

/-- The scales after the first `n` groups, of the activations. -/
def scaleN (X : S24x4096.Idx → Elt F .bf16) : ℕ → FVec F S24x32 .f32
  | 0 => k0_pay39
  | n + 1 => gSel n (scaleN X n) (gScale (F := F) (blk X n))
theorem scaleAcc_eq (XV : Buf (Elt F) ((Memref.whole main_v0).view.loc (c : Thread nD τ))) (n : ℕ) : scaleAcc c XV n = scaleN (F := F) XV n := by
  induction n with
  | zero => rfl
  | succ n ih => rw [scaleAcc, scaleN, ih, ldX_eq]
/-- The scales. -/
def scalesV (X : S24x4096.Idx → Elt F .bf16) : S24x32.Idx → Elt F .f32 := scaleN (F := F) X 32
/-- The products. -/
def yV (XA : Buf (Elt F) (wM.view.loc (c : Thread nD τ))) (X : S24x4096.Idx → Elt F .bf16) (WV : S32x112.Idx → Elt F .f32) : S24x14336.Idx → Elt F .bf16 :=
  yOf c XA (xdV (F := F) X) (wsxV (F := F) WV)

theorem scales_writes (XV : Buf (Elt F) ((Memref.whole main_v0).view.loc (c : Thread nD τ))) (f : (Memref.whole cc0_scratch4).view.ty.Contents (Elt F)) :
    (Memref.whole cc0_scratch4).view.writes (Elt F) f
      [⟨Rect.unit (s := S24x32) ![0, 0] S24x32.size inb_S24x32_S24x32_0_0, shapeCast S24x32 (scaleAcc c XV 32) shapeCasts_S24x32_S24x32⟩] = scalesV (F := F) XV := by
  have z : ∀ x : S24x32.Idx, (Rect.unit (s := S24x32) ![0, 0] S24x32.size inb_S24x32_S24x32_0_0).emb x = x := by
    intro x; funext a; apply Fin.ext; refine (Rect.emb_apply (Rect.unit (s := S24x32) ![0, 0] S24x32.size inb_S24x32_S24x32_0_0) x a).trans ?_; fin_cases a
    · show 0 + 1 * (x 0).val = (x 0).val; omega
    · show 0 + 1 * (x 1).val = (x 1).val; omega
  refine whole_pieces cc0_scratch4 f _ (scalesV (F := F) XV) ?_ ?_
  · intro p hp x
    rw [List.mem_singleton] at hp; subst hp
    show shapeCast S24x32 (scaleAcc c XV 32) shapeCasts_S24x32_S24x32 x = scalesV (F := F) XV ((Rect.unit (s := S24x32) ![0, 0] S24x32.size inb_S24x32_S24x32_0_0).emb x)
    rw [z, shapeCast_self, scaleAcc_eq]; rfl
  · intro y
    refine ⟨_, List.mem_singleton.2 rfl, ?_⟩
    rw [Rect.mem_set_unit]; intro a
    have h0 : (y 0).val < 24 := (y 0).isLt
    have h1 : (y 1).val < 32 := (y 1).isLt
    fin_cases a
    · show 0 ≤ (y 0).val ∧ (y 0).val < 0 + 24; omega
    · show 0 ≤ (y 1).val ∧ (y 1).val < 0 + 32; omega

end Run

end Cert.Proof.KernelBody

end
-- ==== Proof.KernelBody.lean ====
/-
  The kernel's body: the prologue's transfers, the quantisation, the loop, and the results' transfers.
-/
module

public import proofs.«01_k».proof.Proof.KernelQuant

@[expose] public section

noncomputable section

namespace Cert.Proof.KernelBody

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Lits

/-- The prologue's literal slices: slot and cell `n`, block `r / 256`. -/
theorem semLit (n : ℕ) (hn : n < 16) (hh) : (cc0_scratch8.slice (Rect.unit (s := S16) ![n] S1.size hh)).squeeze S_ squeezes_S1_S_ = csm (Ring.sl 16 n) :=
  csm_congr (by simp [semOff, Ring.sl, Fin.ofNat, Nat.mod_eq_of_lt hn]) _
theorem slotLit (n : ℕ) (hn : n < 16) (hh hs) : (bufM.slice (Rect.unit (s := S16x256x4096) ![n, 0, 0] S1x256x4096.size hh) hs).squeeze S256x4096 squeezes_S1x256x4096_S256x4096 = rslot (Ring.sl 16 n) :=
  rslot_congr (by simp [slotOff, Ring.sl, Fin.ofNat, Nat.mod_eq_of_lt hn]) _ _
theorem grpLit (r : ℕ) (hn : r < 14336) (h0 : r % 256 = 0) (hh hs) : wM.slice (Rect.unit (s := S14336x4096) ![r, 0] S256x4096.size hh) hs = grp (Ring.bk 56 (r / 256)) :=
  grp_congr (by simp only [grpOff]; rw [Ring.bk_val (by omega)]; congr 1; omega) _ _

end Lits

section Body
variable (c : Dev nD) (XA : Buf (Elt F) (wM.view.loc (c : Thread nD τ)))

/-- A buffer of the core, held whole. -/
abbrev bP (b : Ref sig .tc) (f : Buf (Elt F) ((Memref.whole b).view.loc (c : Thread nD τ))) : sProp 𝕄 :=
  (Memref.whole b).view.loc (c : Thread nD τ) ↦[(Memref.whole b).view.set]{fullShare} f
theorem inb5 (n : ℕ) (hn : n < 5) : ∀ a, (![n] : Fin 1 → ℕ) a + S1.size a ≤ S5.size a := by
  intro a; fin_cases a; show n + 1 ≤ 5; omega
/-- The cell of the kernel's other transfers' semaphore `n`. -/
abbrev xcell (n : ℕ) (hn : n < 5) : sProp 𝕄 := semVal ((c : Thread nD τ), SemLoc.dma ((cc0_scratch9.slice (Rect.unit (s := S5) ![n] S1.size (inb5 n hn))).squeeze S_ squeezes_S1_S_).sem) 0

abbrev bodyG : Prog (TpuEff nD τ sig (Elt F) Λ₀ .tc) PUnit :=
  cc0_fp8_block_linear (F := F) (Memref.whole main_v0) (Memref.isWhole_whole _) wM (Memref.isWhole_whole _) (Memref.whole main_v1) (Memref.isWhole_whole _)
    (Memref.whole main_v2_0) (Memref.isWhole_whole _) (Memref.whole main_v2_1) (Memref.isWhole_whole _) (Memref.whole main_v2_2) (Memref.isWhole_whole _)
    (Memref.whole cc0_scratch0) (Memref.isWhole_whole _) (Memref.whole cc0_scratch1) (Memref.isWhole_whole _) bufM (Memref.isWhole_whole _)
    (Memref.whole cc0_scratch3) (Memref.isWhole_whole _) (Memref.whole cc0_scratch4) (Memref.isWhole_whole _) xdM (Memref.isWhole_whole _)
    wsxM (Memref.isWhole_whole _) yM (Memref.isWhole_whole _) cc0_scratch8 cc0_scratch9

abbrev freeP (n : ℕ) : sProp 𝕄 := iprop(cellP c (Ring.sl 16 n) ∗ ∃ f, slotP c (Ring.sl 16 n) f)

abbrev PRE (XV : Buf (Elt F) ((Memref.whole main_v0).view.loc (c : Thread nD τ))) (WV : Buf (Elt F) ((Memref.whole main_v1).view.loc (c : Thread nD τ))) (W : Waits sig Unit) : sProp 𝕄 :=
  iprop(bP c main_v0 XV ∗ bP c main_v1 WV ∗ (∃ f, bP c main_v2_0 f) ∗ (∃ f, bP c main_v2_1 f) ∗ (∃ f, bP c main_v2_2 f)
    ∗ (∃ f, bP c cc0_scratch0 f) ∗ (∃ f, bP c cc0_scratch1 f) ∗ (∃ f, bP c cc0_scratch3 f) ∗ (∃ f, bP c cc0_scratch4 f)
    ∗ (∃ f, bP c cc0_scratch5 f) ∗ (∃ f, bP c cc0_scratch6 f) ∗ (∃ f, bP c cc0_scratch7 f)
    ∗ xcell c 0 (by decide) ∗ xcell c 1 (by decide) ∗ xcell c 2 (by decide) ∗ xcell c 3 (by decide) ∗ xcell c 4 (by decide)
    ∗ bigSep Finset.univ (homeP c XA)
    ∗ (freeP c 0 ∗ freeP c 1 ∗ freeP c 2 ∗ freeP c 3 ∗ freeP c 4 ∗ freeP c 5 ∗ freeP c 6 ∗ freeP c 7 ∗ freeP c 8 ∗ freeP c 9 ∗ freeP c 10 ∗ freeP c 11 ∗ freeP c 12 ∗ freeP c 13 ∗ freeP c 14 ∗ freeP c 15)
    ∗ owes (c : Thread nD τ) 0 W)

/-- The ring at the loop's entry: the first 16 blocks in flight, block `i` in slot `i`. -/
theorem roles_zero :
    iprop((∃ f, flightP c XA (Ring.sl 16 0) (Ring.bk 56 0) f) ∗ (∃ f, flightP c XA (Ring.sl 16 1) (Ring.bk 56 1) f) ∗ (∃ f, flightP c XA (Ring.sl 16 2) (Ring.bk 56 2) f) ∗ (∃ f, flightP c XA (Ring.sl 16 3) (Ring.bk 56 3) f) ∗ (∃ f, flightP c XA (Ring.sl 16 4) (Ring.bk 56 4) f) ∗ (∃ f, flightP c XA (Ring.sl 16 5) (Ring.bk 56 5) f) ∗ (∃ f, flightP c XA (Ring.sl 16 6) (Ring.bk 56 6) f) ∗ (∃ f, flightP c XA (Ring.sl 16 7) (Ring.bk 56 7) f) ∗ (∃ f, flightP c XA (Ring.sl 16 8) (Ring.bk 56 8) f) ∗ (∃ f, flightP c XA (Ring.sl 16 9) (Ring.bk 56 9) f) ∗ (∃ f, flightP c XA (Ring.sl 16 10) (Ring.bk 56 10) f) ∗ (∃ f, flightP c XA (Ring.sl 16 11) (Ring.bk 56 11) f) ∗ (∃ f, flightP c XA (Ring.sl 16 12) (Ring.bk 56 12) f) ∗ (∃ f, flightP c XA (Ring.sl 16 13) (Ring.bk 56 13) f) ∗ (∃ f, flightP c XA (Ring.sl 16 14) (Ring.bk 56 14) f) ∗ (∃ f, flightP c XA (Ring.sl 16 15) (Ring.bk 56 15) f))
      ⊢ bigSep (Finset.Ico 0 (0 + 16)) (role c XA) := by
  have e : Finset.Ico 0 (0 + 16) = ([0, 1, 2, 3, 4, 5, 6, 7, 8, 9, 10, 11, 12, 13, 14, 15] : List ℕ).toFinset := by decide
  rw [bigSep_eq_bigSepL_of_eq _ e (by decide)]
  exact entails_of_eq rfl

/-- The weight's blocks at the start: the first 16 about to go out, beside the rest. -/
theorem homes_start : bigSep Finset.univ (homeP c XA)
    ⊢ iprop(bigSep (Ring.homeSet 16 0) (homeP c XA) ∗ homeP c XA (Ring.bk 56 (0 / 256)) ∗ homeP c XA (Ring.bk 56 (256 / 256)) ∗ homeP c XA (Ring.bk 56 (512 / 256)) ∗ homeP c XA (Ring.bk 56 (768 / 256)) ∗ homeP c XA (Ring.bk 56 (1024 / 256)) ∗ homeP c XA (Ring.bk 56 (1280 / 256)) ∗ homeP c XA (Ring.bk 56 (1536 / 256)) ∗ homeP c XA (Ring.bk 56 (1792 / 256)) ∗ homeP c XA (Ring.bk 56 (2048 / 256)) ∗ homeP c XA (Ring.bk 56 (2304 / 256)) ∗ homeP c XA (Ring.bk 56 (2560 / 256)) ∗ homeP c XA (Ring.bk 56 (2816 / 256)) ∗ homeP c XA (Ring.bk 56 (3072 / 256)) ∗ homeP c XA (Ring.bk 56 (3328 / 256)) ∗ homeP c XA (Ring.bk 56 (3584 / 256)) ∗ homeP c XA (Ring.bk 56 (3840 / 256))) := by
  have e : (Finset.univ : Finset (Fin 56)) = Ring.homeSet 16 0 ∪ ([0, 1, 2, 3, 4, 5, 6, 7, 8, 9, 10, 11, 12, 13, 14, 15] : List (Fin 56)).toFinset := by decide
  rw [e, BI.bigSep_union (by decide), bigSep_eq_bigSepL_of_eq [0, 1, 2, 3, 4, 5, 6, 7, 8, 9, 10, 11, 12, 13, 14, 15] rfl (by decide)]
  exact entails_of_eq rfl
/-- The ring after the loop: every slot free. -/
theorem roles_last : bigSep (Finset.Ico 56 (56 + 16)) (role c XA) ⊢ iprop(freeP c 0 ∗ freeP c 1 ∗ freeP c 2 ∗ freeP c 3 ∗ freeP c 4 ∗ freeP c 5 ∗ freeP c 6 ∗ freeP c 7 ∗ freeP c 8 ∗ freeP c 9 ∗ freeP c 10 ∗ freeP c 11 ∗ freeP c 12 ∗ freeP c 13 ∗ freeP c 14 ∗ freeP c 15) := by
  have e : Finset.Ico 56 (56 + 16) = ([64, 65, 66, 67, 68, 69, 70, 71, 56, 57, 58, 59, 60, 61, 62, 63] : List ℕ).toFinset := by decide
  rw [bigSep_eq_bigSepL_of_eq _ e (by decide)]
  exact entails_of_eq rfl

/-- What the body holds after its run: the three results at their contents, everything else back. -/
abbrev POST (XV : Buf (Elt F) ((Memref.whole main_v0).view.loc (c : Thread nD τ))) (WV : Buf (Elt F) ((Memref.whole main_v1).view.loc (c : Thread nD τ))) : sProp 𝕄 :=
  iprop(bP c main_v0 XV ∗ bP c main_v1 WV ∗ bP c main_v2_0 (yV c XA XV WV) ∗ bP c main_v2_1 (codesV (F := F) XV) ∗ bP c main_v2_2 (scalesV (F := F) XV)
    ∗ (∃ f, bP c cc0_scratch0 f) ∗ (∃ f, bP c cc0_scratch1 f) ∗ (∃ f, bP c cc0_scratch3 f) ∗ (∃ f, bP c cc0_scratch4 f)
    ∗ (∃ f, bP c cc0_scratch5 f) ∗ (∃ f, bP c cc0_scratch6 f) ∗ (∃ f, bP c cc0_scratch7 f)
    ∗ xcell c 0 (by decide) ∗ xcell c 1 (by decide) ∗ xcell c 2 (by decide) ∗ xcell c 3 (by decide) ∗ xcell c 4 (by decide)
    ∗ bigSep Finset.univ (homeP c XA)
    ∗ (freeP c 0 ∗ freeP c 1 ∗ freeP c 2 ∗ freeP c 3 ∗ freeP c 4 ∗ freeP c 5 ∗ freeP c 6 ∗ freeP c 7 ∗ freeP c 8 ∗ freeP c 9 ∗ freeP c 10 ∗ freeP c 11 ∗ freeP c 12 ∗ freeP c 13 ∗ freeP c 14 ∗ freeP c 15)
    ∗ (∃ W, owes (c : Thread nD τ) 0 W))

attribute [local sl_canon] semLit slotLit grpLit in
set_option maxRecDepth 16384 in
set_option maxHeartbeats 0 in
theorem bodyRun (XV WV W) (Q : PUnit → sProp 𝕄) :
    iprop(PRE c XA XV WV W ∗ (POST c XA XV WV -∗ Q PUnit.unit))
      ⊢ wp frame (wpE (defs₀ (F := F)) 𝒱₀ (c : Thread nD τ) none) Set.univ (bodyG (F := F)) Q := by
  iintro ⟨⟨Hx, Hws, ⟨%fy, Hy⟩, ⟨%fc, Hc⟩, ⟨%fs, Hs⟩, ⟨%g0, H0⟩, ⟨%g1, H1⟩, ⟨%g3, H3⟩, ⟨%g4, H4⟩, ⟨%g5, H5⟩, ⟨%g6, H6⟩, ⟨%g7, H7⟩, C0, C1, C2, C3, C4, Hh, ⟨⟨K0, ⟨%s0, S0⟩⟩, ⟨K1, ⟨%s1, S1⟩⟩, ⟨K2, ⟨%s2, S2⟩⟩, ⟨K3, ⟨%s3, S3⟩⟩, ⟨K4, ⟨%s4, S4⟩⟩, ⟨K5, ⟨%s5, S5⟩⟩, ⟨K6, ⟨%s6, S6⟩⟩, ⟨K7, ⟨%s7, S7⟩⟩, ⟨K8, ⟨%s8, S8⟩⟩, ⟨K9, ⟨%s9, S9⟩⟩, ⟨K10, ⟨%s10, S10⟩⟩, ⟨K11, ⟨%s11, S11⟩⟩, ⟨K12, ⟨%s12, S12⟩⟩, ⟨K13, ⟨%s13, S13⟩⟩, ⟨K14, ⟨%s14, S14⟩⟩, ⟨K15, ⟨%s15, S15⟩⟩⟩, HW⟩, HQ⟩
  ihave Hst := (homes_start c XA) $$ Hh
  icases Hst with ⟨Hh, G0, G1, G2, G3, G4, G5, G6, G7, G8, G9, G10, G11, G12, G13, G14, G15⟩
  sl_exec
  have e3 : bodyRun.sl.H3_32 c XV = codeList c XV := rfl
  have e5 : bodyRun.sl.H5_32 c XV = xdList c XV := rfl
  have e6 : bodyRun.sl.H6_32 c WV = wsxList c WV := rfl
  have e4 : bodyRun.sl.H4_1 c XV = [⟨Rect.unit (s := S24x32) ![0, 0] S24x32.size inb_S24x32_S24x32_0_0, shapeCast S24x32 (scaleAcc c XV 32) shapeCasts_S24x32_S24x32⟩] := rfl
  ihave HR := (roles_zero c XA) $$ [K0 K1 K2 K3 K4 K5 K6 K7 K8 K9 K10 K11 K12 K13 K14 K15]
  · isplitl [K0]; · iexists s0; iexact K0
    isplitl [K1]; · iexists s1; iexact K1
    isplitl [K2]; · iexists s2; iexact K2
    isplitl [K3]; · iexists s3; iexact K3
    isplitl [K4]; · iexists s4; iexact K4
    isplitl [K5]; · iexists s5; iexact K5
    isplitl [K6]; · iexists s6; iexact K6
    isplitl [K7]; · iexists s7; iexact K7
    isplitl [K8]; · iexists s8; iexact K8
    isplitl [K9]; · iexists s9; iexact K9
    isplitl [K10]; · iexists s10; iexact K10
    isplitl [K11]; · iexists s11; iexact K11
    isplitl [K12]; · iexists s12; iexact K12
    isplitl [K13]; · iexists s13; iexact K13
    isplitl [K14]; · iexists s14; iexact K14
    iexists s15; iexact K15
  sl_for (fun k _ => resAt c XA ((Memref.whole cc0_scratch5).view.writes (Elt F) (Memref.whole cc0_scratch5).view.junk (bodyRun.sl.H5_32 c XV))
    ((Memref.whole cc0_scratch6).view.writes (Elt F) (Memref.whole cc0_scratch6).view.junk (bodyRun.sl.H6_32 c WV)) k (yAcc c XA ((Memref.whole cc0_scratch5).view.writes (Elt F) (Memref.whole cc0_scratch5).view.junk (bodyRun.sl.H5_32 c XV))
    ((Memref.whole cc0_scratch6).view.writes (Elt F) (Memref.whole cc0_scratch6).view.junk (bodyRun.sl.H6_32 c WV)) g7 k)) $$ [H5 H6 H7 HW Hh HR]
  · intro k acc
    exact (loopInv c XA ((Memref.whole cc0_scratch5).view.writes (Elt F) (Memref.whole cc0_scratch5).view.junk (bodyRun.sl.H5_32 c XV))
    ((Memref.whole cc0_scratch6).view.writes (Elt F) (Memref.whole cc0_scratch6).view.junk (bodyRun.sl.H6_32 c WV)) g7).step k acc
  · unfold resAt
    isplitl [H5]; · iexact H5
    isplitl [H6]; · iexact H6
    isplitl [H7]; · iexact H7
    isplitl [HW]; · iexists _; iexact HW
    isplitl [Hh]; · iexact Hh
    iexact HR
  iintro %acc Hinv
  ihave Hend := (entails_of_eq (resAt_last c XA ((Memref.whole cc0_scratch5).view.writes (Elt F) (Memref.whole cc0_scratch5).view.junk (bodyRun.sl.H5_32 c XV))
    ((Memref.whole cc0_scratch6).view.writes (Elt F) (Memref.whole cc0_scratch6).view.junk (bodyRun.sl.H6_32 c WV)) g7)) $$ Hinv
  icases Hend with ⟨H5, H6, H7, ⟨%W', HW⟩, Hh, HR⟩
  sl_exec
  ihave HF := (roles_last c XA) $$ HR
  have d5 : (Memref.whole cc0_scratch5).view.writes (Elt F) (Memref.whole cc0_scratch5).view.junk (bodyRun.sl.H5_32 c XV) = xdV (F := F) XV := by
    rw [e5]; exact xd_writes c XV _
  have d6 : (Memref.whole cc0_scratch6).view.writes (Elt F) (Memref.whole cc0_scratch6).view.junk (bodyRun.sl.H6_32 c WV) = wsxV (F := F) WV := by
    rw [e6]; exact wsx_writes c WV _
  have d0 : (Memref.whole main_v2_0).view.writes (Elt F) fy [⟨Rect.whole main_v2_0.ty.shape, bodyRun.sl.dma0_18 c XA XV WV⟩] = yV c XA XV WV := by
    refine (whole_writes c main_v2_0 fy _).trans ?_
    show yOf c XA ((Memref.whole cc0_scratch5).view.writes (Elt F) (Memref.whole cc0_scratch5).view.junk (bodyRun.sl.H5_32 c XV))
      ((Memref.whole cc0_scratch6).view.writes (Elt F) (Memref.whole cc0_scratch6).view.junk (bodyRun.sl.H6_32 c WV)) = yV c XA XV WV
    rw [d5, d6]; rfl
  have d1 : (Memref.whole main_v2_1).view.writes (Elt F) fc [⟨Rect.whole main_v2_1.ty.shape, bodyRun.sl.dma227 c XV g3⟩] = codesV (F := F) XV := by
    refine (whole_writes c main_v2_1 fc _).trans ?_
    show (Memref.whole cc0_scratch3).view.writes (Elt F) g3 (bodyRun.sl.H3_32 c XV) = codesV (F := F) XV
    rw [e3]; exact codes_writes c XV g3
  have d2 : (Memref.whole main_v2_2).view.writes (Elt F) fs [⟨Rect.whole main_v2_2.ty.shape, bodyRun.sl.dma227_1 c XV g4⟩] = scalesV (F := F) XV := by
    refine (whole_writes c main_v2_2 fs _).trans ?_
    show (Memref.whole cc0_scratch4).view.writes (Elt F) g4 (bodyRun.sl.H4_1 c XV) = scalesV (F := F) XV
    rw [e4]; exact scales_writes c XV g4
  ihave Hy' := (entails_of_eq (congrArg (fun f => bP c main_v2_0 f) d0)) $$ Hy
  ihave Hc' := (entails_of_eq (congrArg (fun f => bP c main_v2_1 f) d1)) $$ Hc
  ihave Hs' := (entails_of_eq (congrArg (fun f => bP c main_v2_2 f) d2)) $$ Hs
  sl_step
  iapply HQ
  isplitl [Hx]; · iexact Hx
  isplitl [Hws]; · iexact Hws
  isplitl [Hy']; · iexact Hy'
  isplitl [Hc']; · iexact Hc'
  isplitl [Hs']; · iexact Hs'
  isplitl [H0]; · iexists _; iexact H0
  isplitl [H1]; · iexists _; iexact H1
  isplitl [H3]; · iexists _; iexact H3
  isplitl [H4]; · iexists _; iexact H4
  isplitl [H5]; · iexists _; iexact H5
  isplitl [H6]; · iexists _; iexact H6
  isplitl [H7]; · iexists _; iexact H7
  isplitl [C0]; · iexact C0
  isplitl [C1]; · iexact C1
  isplitl [C2]; · iexact C2
  isplitl [C3]; · iexact C3
  isplitl [C4]; · iexact C4
  isplitl [Hh]; · iexact Hh
  isplitl [HF]; · iexact HF
  iexists _; iexact HW

end Body

end Cert.Proof.KernelBody

end
-- ==== Proof.KernelLaunch.lean ====
/-
  The run of the whole program: the body's run put between the host lines, its result buffers named, every argument
  unchanged and every semaphore at zero.
-/
module

public import proofs.«01_k».proof.Proof.KernelBody
public import Idealize.ShloMosaic.Lib.Pipeline.FrameSuffixV

@[expose] public section

noncomputable section

namespace Cert.Proof.KernelBody

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's own semaphores: the ring's sixteen and the five others -/

abbrev osem : Fin 16 ⊕ Fin 5 → SemLoc sig := Sum.elim (fun s => .dma (csm s).sem)
  (fun n => .dma ((cc0_scratch9.slice (Rect.unit (s := S5) ![n.val] S1.size (inb5 n.val n.isLt))).squeeze S_ squeezes_S1_S_).sem)
theorem ownSemFacts : Pipeline.OwnSemFacts (cfg0.spec) osem := by decide

/-! ## Element sets: the weight's 56 blocks, the ring's 16 slots -/

abbrev GB (b : Fin 56) : Finset S14336x4096.Idx := (Rect.unit (s := S14336x4096) (grpOff b) S256x4096.size (grpOff_inb b)).set
abbrev SB (s : Fin 16) : Finset S16x256x4096.Idx := (Rect.unit (s := S16x256x4096) (slotOff s) S1x256x4096.size (slotOff_inb s)).set

theorem grp_set (b : Fin 56) : (grp b : Memref sig .tc .hbm _ _).view.set = GB b := View.set_slice_whole _ _
theorem rslot_set (s : Fin 16) : (rslot s : Memref sig .tc .vmem _ _).view.set = SB s := (View.set_reshape _ _).trans (View.set_slice_whole _ _)

theorem mem_GB (b : Fin 56) (y : S14336x4096.Idx) : y ∈ GB b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem mem_SB (s : Fin 16) (y : S16x256x4096.Idx) : y ∈ SB s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem GB_disjoint : ∀ b b' : Fin 56, b ≠ b' → Disjoint (GB b) (GB b') := by
  intro b b' hne; rw [Finset.disjoint_left]; intro y hy hy'; rw [mem_GB] at hy hy'; exact hne (Fin.ext (hy.symm.trans hy'))
theorem GB_cover : (Finset.univ : Finset (Fin 56)).biUnion GB = Finset.univ := by
  ext y; simp only [Finset.mem_biUnion, Finset.mem_univ, true_and, iff_true]
  have h0 : (y 0).val < 14336 := (y 0).isLt
  exact ⟨⟨(y 0).val / 256, by omega⟩, (mem_GB _ _).2 rfl⟩
theorem SB_disjoint : ∀ s s' : Fin 16, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 16)).biUnion SB = Finset.univ := by
  ext y; simp only [Finset.mem_biUnion, Finset.mem_univ, true_and, iff_true]; exact ⟨(y 0).cast (by decide), (mem_SB _ _).2 rfl⟩

/-- The weight whole is its 56 blocks home. -/
theorem a_eq (c : Dev nD) (XA : Buf (Elt F) (wM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) GB GB_disjoint GB_cover]
  exact bigSep_congr fun b _ => by rw [← grp_set]; rfl

theorem slotP_eq (c : Dev nD) (s : Fin 16) (f) : slotP c s f = (((c : Thread nD τ).loc cc0_scratch2) ↦[SB s]{fullShare} f : sProp 𝕄) :=
  congrArg (fun S => (_ ↦[S]{fullShare} f : sProp 𝕄)) (rslot_set s)
/-- The ring's buffer whole is its sixteen slots, each at some contents, and back. -/
theorem buf_split (c : Dev nD) :
    iprop(∃ f : Buf (Elt F) ((c : Thread nD τ).loc cc0_scratch2), ((c : Thread nD τ).loc cc0_scratch2) ↦{fullShare} f)
      ⊢ (bigSep Finset.univ (fun s : Fin 16 => iprop(∃ f, slotP c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch2) SB SB_disjoint SB_cover f)) $$ H
  have e1 : ∀ s : Fin 16, (slotP c s f : sProp 𝕄) ⊢ iprop(∃ f, slotP c s f) := fun s => by iintro H; iexists f; iexact H
  have e : (bigSep Finset.univ (fun s : Fin 16 => (((c : Thread nD τ).loc cc0_scratch2) ↦[SB s]{fullShare} f : sProp 𝕄)) : sProp 𝕄)
      ⊢ bigSep Finset.univ (fun s : Fin 16 => iprop(∃ f, slotP c s f)) := BI.bigSep_mono fun s _ => (entails_of_eq (slotP_eq c s f).symm).trans (e1 s)
  iapply e; iexact H2
theorem buf_join (c : Dev nD) :
    (bigSep Finset.univ (fun s : Fin 16 => iprop(∃ f, slotP c s f)) : sProp 𝕄)
      ⊢ (iprop(∃ f : Buf (Elt F) ((c : Thread nD τ).loc cc0_scratch2), ((c : Thread nD τ).loc cc0_scratch2) ↦{fullShare} f) : sProp 𝕄) := by
  refine .trans ?_ (Ring.pointsTo_blocks_join_exists (ℓ := (c : Thread nD τ).loc cc0_scratch2) SB SB_disjoint SB_cover (fun _ => Classical.arbitrary _))
  exact entails_of_eq (bigSep_congr fun s _ => by simp only [slotP_eq]; rfl)

/-- The kernel's own cells: the ring's and the five others. -/
theorem ownSems0_eq (c : Dev nD) : (Pipeline.ownSems0 (Ix := Unit) (Name := ℕ) (U := UU nD τ) (Lvl := ℕ) (Val := Elt F) (τ := τ) osem c : sProp 𝕄)
    = iprop(bigSep Finset.univ (fun s : Fin 16 => cellP c s)
        ∗ xcell c 0 (by decide) ∗ xcell c 1 (by decide) ∗ xcell c 2 (by decide) ∗ xcell c 3 (by decide) ∗ xcell c 4 (by decide)) := by
  unfold Pipeline.ownSems0
  have e : (Finset.univ : Finset (Fin 16 ⊕ Fin 5)) = Finset.univ.map ⟨Sum.inl, Sum.inl_injective⟩ ∪ ([Sum.inr 0, Sum.inr 1, Sum.inr 2, Sum.inr 3, Sum.inr 4] : List (Fin 16 ⊕ Fin 5)).toFinset := by decide
  rw [e, BI.bigSep_union (by decide), bigSep_map, bigSep_eq_bigSepL_of_eq [Sum.inr 0, Sum.inr 1, Sum.inr 2, Sum.inr 3, Sum.inr 4] rfl (by decide)]
  rfl

/-- The sixteen free slots are the ring's cells beside its slots. -/
theorem free_eq (c : Dev nD) : (iprop(freeP c 0 ∗ freeP c 1 ∗ freeP c 2 ∗ freeP c 3 ∗ freeP c 4 ∗ freeP c 5 ∗ freeP c 6 ∗ freeP c 7 ∗ freeP c 8 ∗ freeP c 9 ∗ freeP c 10 ∗ freeP c 11 ∗ freeP c 12 ∗ freeP c 13 ∗ freeP c 14 ∗ freeP c 15) : sProp 𝕄)
    = iprop(bigSep Finset.univ (fun s : Fin 16 => cellP c s) ∗ bigSep Finset.univ (fun s : Fin 16 => iprop(∃ f, slotP c s f))) := by
  refine Eq.trans ?_ (BI.bigSep_sep _ _ _)
  rw [bigSep_univ_eq_bigSepL [Ring.sl 16 0, Ring.sl 16 1, Ring.sl 16 2, Ring.sl 16 3, Ring.sl 16 4, Ring.sl 16 5, Ring.sl 16 6, Ring.sl 16 7, Ring.sl 16 8, Ring.sl 16 9, Ring.sl 16 10, Ring.sl 16 11, Ring.sl 16 12, Ring.sl 16 13, Ring.sl 16 14, Ring.sl 16 15] (by decide) (by decide)]
  rfl

/-! ## What the region is entered with and left with -/

section Run
variable (m : (ℓ : Loc nD τ sig) → Buf (Elt F) ℓ) (ρ : Dev nD → PrngReg)

/-- The buffers the region reads and leaves as they were; the buffers it writes. -/
abbrev HH : Finset (Ref sig .tc) := ([main_arg1, main_v0, main_v1] : List (Ref sig .tc)).toFinset
abbrev RR : Finset (Ref sig .tc) := ([main_v2_0, main_v2_1, main_v2_2] : List (Ref sig .tc)).toFinset

/-- The buffers' contents as the region leaves them: the three results at their values, the rest as found. -/
def G (c : Dev nD) (b : Ref sig .tc) : Buf (Elt F) ((c.tc : Thread nD τ).loc b) :=
  if h0 : b = main_v2_0 then h0 ▸ (yV c (V m c main_arg1) (V m c main_v0) (V m c main_v1))
  else if h1 : b = main_v2_1 then h1 ▸ (codesV (F := F) (V m c main_v0))
  else if h2 : b = main_v2_2 then h2 ▸ (scalesV (F := F) (V m c main_v0))
  else V m c b

theorem G_y (c : Dev nD) : G m c main_v2_0 = yV c (V m c main_arg1) (V m c main_v0) (V m c main_v1) := by
  unfold G; rw [dif_pos rfl]
theorem G_codes (c : Dev nD) : G m c main_v2_1 = codesV (F := F) (V m c main_v0) := by
  unfold G; rw [dif_neg (by decide), dif_pos rfl]
theorem G_scales (c : Dev nD) : G m c main_v2_2 = scalesV (F := F) (V m c main_v0) := by
  unfold G; rw [dif_neg (by decide), dif_neg (by decide), dif_pos rfl]

/-- What the region holds beside its windows at contents `g` of the buffers it writes. -/
abbrev Held (g : (c : Dev nD) → (b : Ref sig .tc) → Buf (Elt F) ((c.tc : Thread nD τ).loc b)) (c : Dev nD) : sProp 𝕄 :=
  Pipeline.ΦDRV osem (cfg0.spec) HH RR (V m) g c

theorem held_eq (g : (c : Dev nD) → (b : Ref sig .tc) → Buf (Elt F) ((c.tc : Thread nD τ).loc b)) (c : Dev nD) : Held m g c
    = iprop(Pipeline.scopedRest (cfg0.spec) c
        ∗ (bigSep Finset.univ (fun s : Fin 16 => cellP c s)
          ∗ xcell c 0 (by decide) ∗ xcell c 1 (by decide) ∗ xcell c 2 (by decide) ∗ xcell c 3 (by decide) ∗ xcell c 4 (by decide))
        ∗ ((((c : Thread nD τ).loc main_arg1) ↦{fullShare} V m c main_arg1) ∗ bP c main_v0 (V m c main_v0) ∗ bP c main_v1 (V m c main_v1))
        ∗ (bP c main_v2_0 (g c main_v2_0) ∗ bP c main_v2_1 (g c main_v2_1) ∗ bP c main_v2_2 (g c main_v2_2))) := by
  rw [← ownSems0_eq]
  unfold Held Pipeline.ΦDRV
  rw [bigSep_eq_bigSepL_of_eq [main_arg1, main_v0, main_v1] rfl (by decide), bigSep_eq_bigSepL_of_eq [main_v2_0, main_v2_1, main_v2_2] rfl (by decide)]
  simp only [bP, Memref.view_whole, View.set_whole]
  rfl

/-- The buffers the region allocates, each whole at some contents. -/
theorem scoped_eq (c : Dev nD) : (Pipeline.scopedRest (cfg0.spec) c : sProp 𝕄)
    = iprop((∃ f, bP c cc0_scratch0 f) ∗ (∃ f, bP c cc0_scratch1 f) ∗ (∃ f : Buf (Elt F) ((c : Thread nD τ).loc cc0_scratch2), ((c : Thread nD τ).loc cc0_scratch2) ↦{fullShare} f)
        ∗ (∃ f, bP c cc0_scratch3 f) ∗ (∃ f, bP c cc0_scratch4 f) ∗ (∃ f, bP c cc0_scratch5 f) ∗ (∃ f, bP c cc0_scratch6 f) ∗ (∃ f, bP c cc0_scratch7 f)) := by
  rw [scopedRest0_eq]
  simp only [bP, Memref.view_whole, View.set_whole]

set_option maxHeartbeats 0 in
/-- Entering: what the region holds is what the body needs. -/
theorem held_pre (c : Dev nD) (W : Waits sig Unit) :
    iprop(Held m (V m) c ∗ owes (c : Thread nD τ) 0 W) ⊢ PRE c (V m c main_arg1) (V m c main_v0) (V m c main_v1) W := by
  unfold PRE
  rw [held_eq, scoped_eq, a_eq, free_eq]
  iintro ⟨⟨⟨B0, B1, B2, B3, B4, B5, B6, B7⟩, ⟨HC, C0, C1, C2, C3, C4⟩, ⟨Ha, Hx, Hw⟩, Hy, Hc, Hs⟩, HW⟩
  ihave HS := (buf_split c) $$ B2
  isplitl [Hx]; · iexact Hx
  isplitl [Hw]; · iexact Hw
  isplitl [Hy]; · iexists _; iexact Hy
  isplitl [Hc]; · iexists _; iexact Hc
  isplitl [Hs]; · iexists _; iexact Hs
  isplitl [B0]; · iexact B0
  isplitl [B1]; · iexact B1
  isplitl [B3]; · iexact B3
  isplitl [B4]; · iexact B4
  isplitl [B5]; · iexact B5
  isplitl [B6]; · iexact B6
  isplitl [B7]; · iexact B7
  isplitl [C0]; · iexact C0
  isplitl [C1]; · iexact C1
  isplitl [C2]; · iexact C2
  isplitl [C3]; · iexact C3
  isplitl [C4]; · iexact C4
  isplitl [Ha]; · iexact Ha
  isplitl [HC HS]
  · isplitl [HC]; · iexact HC
    iexact HS
  iexact HW

set_option maxHeartbeats 0 in
/-- Leaving: what the body gives back is what the region holds, the results at their values. -/
theorem post_held (c : Dev nD) :
    POST c (V m c main_arg1) (V m c main_v0) (V m c main_v1) ⊢ iprop(Held m (G m) c ∗ ∃ W, owes (c : Thread nD τ) 0 W) := by
  unfold POST
  rw [held_eq, scoped_eq, a_eq, free_eq, G_y, G_codes, G_scales]
  iintro ⟨Hx, Hw, Hy, Hc, Hs, B0, B1, B3, B4, B5, B6, B7, C0, C1, C2, C3, C4, Ha, ⟨HC, HS⟩, HW⟩
  ihave B2 := (buf_join c) $$ HS
  isplitr [HW]
  · isplitl [B0 B1 B2 B3 B4 B5 B6 B7]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [HC C0 C1 C2 C3 C4]
    · isplitl [HC]; · iexact HC
      isplitl [C0]; · iexact C0
      isplitl [C1]; · iexact C1
      isplitl [C2]; · iexact C2
      isplitl [C3]; · iexact C3
      iexact C4
    isplitl [Ha Hx Hw]
    · isplitl [Ha]; · iexact Ha
      isplitl [Hx]; · iexact Hx
      iexact Hw
    isplitl [Hy]; · iexact Hy
    isplitl [Hc]; · iexact Hc
    iexact Hs
  iexact HW

/-! ## The pipeline's proof data and the body's obligation -/

def dats (_ : Fin 1) (c : Dev nD) : Dat τ (Elt F) Unit ℕ (UU nD τ) ℕ cfg0 c where
  A w := w.elim0
  after w t := w.elim0
  Φ t := if t.val = 0 then Held m (V m) c else Held m (G m) c
  q _ := fullShare
  owed _ := 0

theorem Φ_enter (c : Dev nD) (t : Fin (cfg0.N + 1)) (h : t.val = 0) : (dats m 0 c).Φ t = Held m (V m) c := by
  dsimp only [dats]; rw [if_pos h]
theorem Φ_leave (c : Dev nD) (t : Fin (cfg0.N + 1)) (h : t.val ≠ 0) : (dats m 0 c).Φ t = Held m (G m) c := by
  dsimp only [dats]; rw [if_neg h]

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

set_option backward.isDefEq.respectTransparency.types false in
theorem body_obligation (c : Dev nD) : BodyObligation (dats (F := F) m 0 c) (defs₀ (F := F)) 𝒱₀ () Set.univ := fun t => by
  have ht : t.val = 0 := by have := t.isLt; have h1 : cfg0.N = 1 := N_0; omega
  rw [show (Finset.univ : Finset (Fin cfg0.W)) = ∅ from rfl, BI.bigSep_empty, BI.bigSep_empty]
  rw [Φ_enter m c t.castSucc ht, Φ_leave m c t.succ (Nat.succ_ne_zero _)]
  unfold Dat.owesAt Pipeline.owesWithin
  rw [show (dats m 0 c).owed t.castSucc = 0 from rfl, show (dats m 0 c).owed t.succ = 0 from rfl]
  iintro ⟨HH, ⟨%W, -, HW⟩, -⟩
  sl_rw [prog_eq t]
  iapply (bodyRun c (V m c main_arg1) (V m c main_v0) (V m c main_v1) W)
  isplitl [HH HW]
  · iapply (held_pre m c W)
    isplitl [HH]; · iexact HH
    iexact HW
  · iintro HP
    ihave H2 := (post_held m c) $$ HP
    icases H2 with ⟨HH, ⟨%W', HW⟩⟩
    isplitl [HH]; · iexact HH
    isplitl [HW]
    · iexists W'; isplitr; · ipureintro; exact fun _ _ => Or.inl trivial
      iexact HW
    iempintro

/-! ## The run -/

/-- The buffers after the whole program: the host lines after the region, over what the region leaves. -/
def fin (c : Dev nD) : Valuation τ sig (Elt F) :=
  StableHlo.after (List.flatten [hostOps1]) (Pipeline.withArrays (cfg0.spec) c (Pipeline.withR (V0 m c) RR c (G m c)) fun w => (dats m 0 c).arrAt w cfg0.N)

set_option backward.isDefEq.respectTransparency.types false in
/-- Every run of the program ends, with every buffer that no window stages at `fin` and every semaphore at zero. -/
theorem run_all : θ_run defs (onTc (τ := τ) (main (F := F))) (s₀ m ρ) (fun r =>
    (∀ c : Dev nD, ∀ b ∈ Pipeline.restRefs sig (cfg0.spec), r.2.mem ((c.tc : Thread nD τ).loc b) = fin m c (Proc.devRef .tc b)) ∧ r.2.sem = fun _ => 0) :=
  Pipeline.θ_run_frame_dmaR_aroundV cfgs (dats m) 0 launch0 osem defs₀ 𝒱₀ ownSemFacts HH RR (by decide) (by decide) m ρ main
    (hbody := fun c => (body_obligation m c).loose) (hshare := fun c w => w.elim0) (howed := fun _ _ => rfl)
    (V₀ := V0 m) (opss := [hostOps1]) sfx_sub sfx_fresh sfx_keeps (G := G m)
    (hmain := Pipeline.hmain_around cfgs 0 defs₀ 𝒱₀ m main [hostOps0] [hostOps1] (by simp only [List.Forall]; exact hostOps0_sub)
      (by simp only [List.Forall]; exact hostOps0_fresh) main_chain)
    (hA := fun c w => w.elim0)
    (hin := fun c => entails_of_eq (Φ_enter m c 0 rfl).symm)
    (hout := fun c => entails_of_eq (Φ_leave m c (Fin.last cfg0.N) (by have h1 : cfg0.N = 1 := N_0; show cfg0.N ≠ 0; omega)))
    (Q' := _) (hQ' := fun r h => ⟨fun c => (h.1 c).2, h.2⟩)

end Run

end Cert.Proof.KernelBody

end
-- ==== Proof.KernelRun.lean ====
/-
  The whole program's run read at its arguments and results.
-/
module

public import proofs.«01_k».proof.Proof.KernelLaunch
public import Idealize.ShloMosaic.Lib.Claim

@[expose] public section

noncomputable section

namespace Cert.Proof.KernelBody

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The three results: the buffers the region writes, in the results' shapes. -/
def res0 (c : Dev nD) : Buf (Elt F) ((c.tc : Thread nD τ).loc main_v3) :=
  shapeCast S24x1x14336 (yV c (m ((c.tc : Thread nD τ).loc main_arg1)) (shapeCast S24x4096 (m ((c.tc : Thread nD τ).loc main_arg0)) shapeCasts_S24x1x4096_S24x4096)
    (transpose S32x112 [1, 0] (m ((c.tc : Thread nD τ).loc main_arg2)) transposes_S112x32_S32x112_1_0)) shapeCasts_S24x14336_S24x1x14336
def res1 (c : Dev nD) : Buf (Elt F) ((c.tc : Thread nD τ).loc main_v4) :=
  shapeCast S24x1x4096 (codesV (F := F) (shapeCast S24x4096 (m ((c.tc : Thread nD τ).loc main_arg0)) shapeCasts_S24x1x4096_S24x4096)) shapeCasts_S24x4096_S24x1x4096
def res2 (c : Dev nD) : Buf (Elt F) ((c.tc : Thread nD τ).loc main_v5) :=
  shapeCast S24x1x32 (scalesV (F := F) (shapeCast S24x4096 (m ((c.tc : Thread nD τ).loc main_arg0)) shapeCasts_S24x1x4096_S24x4096)) shapeCasts_S24x32_S24x1x32

theorem V_v0 (c : Dev nD) : V m c main_v0 = shapeCast S24x4096 (m ((c.tc : Thread nD τ).loc main_arg0)) shapeCasts_S24x1x4096_S24x4096 := by
  show StableHlo.after (List.flatten [hostOps0]) (fun b => m (c, b)) (Proc.devRef .tc main_v0) = _
  simp only [hostOps0, List.flatten_cons, List.flatten_nil, List.append_nil, List.cons_append, List.nil_append, StableHlo.after_cons, StableHlo.after_nil]
  after_results_simp
  rfl
theorem V_v1 (c : Dev nD) : V m c main_v1 = transpose S32x112 [1, 0] (m ((c.tc : Thread nD τ).loc main_arg2)) transposes_S112x32_S32x112_1_0 := by
  show StableHlo.after (List.flatten [hostOps0]) (fun b => m (c, b)) (Proc.devRef .tc main_v1) = _
  simp only [hostOps0, List.flatten_cons, List.flatten_nil, List.append_nil, List.cons_append, List.nil_append, StableHlo.after_cons, StableHlo.after_nil]
  after_results_simp

/-- The contents the lines after the region start from. -/
abbrev mid (c : Dev nD) : Valuation τ sig (Elt F) :=
  Pipeline.withArrays (cfg0.spec) c (Pipeline.withR (V0 m c) RR c (G m c)) fun w => (dats m 0 c).arrAt w cfg0.N

theorem mid_res (c : Dev nD) (b : Ref sig .tc) (hb : b ∈ RR) : mid m c (Proc.devRef .tc b) = G m c b := by
  rw [mid, Pipeline.withArrays_of_ne _ c _ _ b (fun w => w.elim0), Pipeline.withR_of_mem _ _ _ _ _ hb]
theorem mid_arg (c : Dev nD) (b : Ref sig .tc) (hb : b ∉ RR) : mid m c (Proc.devRef .tc b) = V m c b := by
  rw [mid, Pipeline.withArrays_of_ne _ c _ _ b (fun w => w.elim0), Pipeline.withR_of_not_mem _ _ _ _ _ hb]

/-- A buffer no line after the region writes is left as the region leaves it. -/
theorem fin_keep (c : Dev nD) (b : Ref sig .tc) (h3 : b ≠ main_v3) (h4 : b ≠ main_v4) (h5 : b ≠ main_v5) : fin m c (Proc.devRef .tc b) = mid m c (Proc.devRef .tc b) := by
  unfold fin
  exact StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h3, StableHlo.devRef_ne_of_ne h4, StableHlo.devRef_ne_of_ne h5⟩))

theorem fin_v3 (c : Dev nD) : fin m c (Proc.devRef .tc main_v3) = res0 m c := by
  unfold fin
  have e : StableHlo.after (List.flatten [hostOps1]) (mid m c) (Proc.devRef .tc main_v3) = shapeCast S24x1x14336 (mid m c (Proc.devRef .tc main_v2_0)) shapeCasts_S24x14336_S24x1x14336 := by
    generalize mid m c = σ
    simp only [hostOps1, List.flatten_cons, List.flatten_nil, List.append_nil, List.cons_append, List.nil_append, StableHlo.after_cons, StableHlo.after_nil]
    after_results_simp
    rfl
  refine e.trans ?_
  rw [mid_res m c main_v2_0 (by decide), G_y, V_main_arg1, V_v0, V_v1]; rfl
theorem fin_v4 (c : Dev nD) : fin m c (Proc.devRef .tc main_v4) = res1 m c := by
  unfold fin
  have e : StableHlo.after (List.flatten [hostOps1]) (mid m c) (Proc.devRef .tc main_v4) = shapeCast S24x1x4096 (mid m c (Proc.devRef .tc main_v2_1)) shapeCasts_S24x4096_S24x1x4096 := by
    generalize mid m c = σ
    simp only [hostOps1, List.flatten_cons, List.flatten_nil, List.append_nil, List.cons_append, List.nil_append, StableHlo.after_cons, StableHlo.after_nil]
    after_results_simp
    rfl
  refine e.trans ?_
  rw [mid_res m c main_v2_1 (by decide), G_codes, V_v0]; rfl
theorem fin_v5 (c : Dev nD) : fin m c (Proc.devRef .tc main_v5) = res2 m c := by
  unfold fin
  have e : StableHlo.after (List.flatten [hostOps1]) (mid m c) (Proc.devRef .tc main_v5) = shapeCast S24x1x32 (mid m c (Proc.devRef .tc main_v2_2)) shapeCasts_S24x32_S24x1x32 := by
    generalize mid m c = σ
    simp only [hostOps1, List.flatten_cons, List.flatten_nil, List.append_nil, List.cons_append, List.nil_append, StableHlo.after_cons, StableHlo.after_nil]
    after_results_simp
    rfl
  refine e.trans ?_
  rw [mid_res m c main_v2_2 (by decide), G_scales, V_v0]; rfl

/-- Every run ends with the three results at their values, the arguments unchanged and every semaphore at zero. -/
theorem run_results : θ_run defs (onTc (τ := τ) (main (F := F))) ⟨m, fun _ => 0, ρ⟩ (fun r => (∀ c : Dev nD,
      (r.2.mem ((c.tc : Thread nD τ).loc main_v3) = res0 m c
      ∧ r.2.mem ((c.tc : Thread nD τ).loc main_v4) = res1 m c
      ∧ r.2.mem ((c.tc : Thread nD τ).loc main_v5) = res2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r (h : _ ∧ _) => ⟨fun c =>
    ⟨⟨(h.1 c main_v3 (Pipeline.mem_restRefs_of main_v3 (by decide) (by decide))).trans (fin_v3 m c),
      (h.1 c main_v4 (Pipeline.mem_restRefs_of main_v4 (by decide) (by decide))).trans (fin_v4 m c),
      (h.1 c main_v5 (Pipeline.mem_restRefs_of main_v5 (by decide) (by decide))).trans (fin_v5 m c)⟩,
     (h.1 c main_arg0 (Pipeline.mem_restRefs_of main_arg0 (by decide) (by decide))).trans ((fin_keep m c main_arg0 (by decide) (by decide) (by decide)).trans ((mid_arg m c main_arg0 (by decide)).trans (V_main_arg0 m c))),
     (h.1 c main_arg1 (Pipeline.mem_restRefs_of main_arg1 (by decide) (by decide))).trans ((fin_keep m c main_arg1 (by decide) (by decide) (by decide)).trans ((mid_arg m c main_arg1 (by decide)).trans (V_main_arg1 m c))),
     (h.1 c main_arg2 (Pipeline.mem_restRefs_of main_arg2 (by decide) (by decide))).trans ((fin_keep m c main_arg2 (by decide) (by decide) (by decide)).trans ((mid_arg m c main_arg2 (by decide)).trans (V_main_arg2 m c)))⟩, h.2⟩)
    (run_all m ρ)

end Cert.Proof.KernelBody

end
-- ==== Proof.Exponent.lean ====
/-
  A float's exponent over the extended reals: counted by thresholds, and as the floor of a logarithm.
-/
module

public import Idealize.ShloMosaic.PureOps
public import Idealize.ShloMosaic.PureOps.Ideal.Laws
public import Idealize.ShloMosaic.Lib.IndicatorCount

@[expose] public section

noncomputable section

namespace Cert.Proof.Exponent

open Idealize.ShloMosaic

/-- The pattern whose exponent field is `k`. -/
def pat (k : ℕ) : BitVec 32 := IntOp.shli .vector (BitVec.ofNat 32 k) 23#32

/-- The pattern as a number. -/
theorem pat_toNat {k : ℕ} (h : k < 256) : (pat k).toNat = k * 2 ^ 23 := by
  unfold pat IntOp.shli
  rw [if_pos (by decide), BitVec.shiftLeft_eq', BitVec.toNat_shiftLeft, Nat.shiftLeft_eq, BitVec.toNat_ofNat]
  show k % 2 ^ 32 * 2 ^ 23 % 2 ^ 32 = k * 2 ^ 23
  omega

/-- Its three fields. -/
theorem pat_fields {k : ℕ} (h : k < 256) :
    ((pat k).extractLsb' 31 1 == 1#1) = false ∧ ((pat k).extractLsb' 23 8).toNat = k ∧ ((pat k).extractLsb' 0 23).toNat = 0 := by
  refine ⟨?_, ?_, ?_⟩
  · rw [beq_eq_false_iff_ne]; intro e
    have e' := congrArg BitVec.toNat e
    rw [BitVec.extractLsb'_toNat, pat_toNat h, Nat.shiftRight_eq_div_pow] at e'
    change k * 2 ^ 23 / 2 ^ 31 % 2 ^ 1 = 1 at e'
    omega
  · rw [BitVec.extractLsb'_toNat, pat_toNat h, Nat.shiftRight_eq_div_pow]; omega
  · rw [BitVec.extractLsb'_toNat, pat_toNat h, Nat.shiftRight_eq_div_pow]; omega

/-- With a field from 1 to 254 it is a power of two. -/
theorem ofBits_pat {k : ℕ} (h1 : 1 ≤ k) (h2 : k ≤ 254) : Ideal.ofBits .f32 (pat k) = (((2 : ℝ) ^ ((k : ℤ) - 127) : ℝ) : EReal) := by
  obtain ⟨e1, e2, e3⟩ := pat_fields (show k < 256 by omega)
  have n1 : ¬ k = 2 ^ 8 - 1 := by omega
  have n2 : ¬ k = 0 := by omega
  have e4 : ((k : ℤ) - ((2 : ℤ) ^ (8 - 1) - 1) - ((23 : ℕ) : ℤ)) = ((k : ℤ) - 127) - 23 := by norm_num
  unfold Ideal.ofBits Ideal.ieee
  simp only []
  rw [show (8 + 23 : ℕ) = 31 from rfl, e1, e2, e3, if_neg n1, if_neg n2, e4, zpow_sub₀ (by norm_num : (2 : ℝ) ≠ 0)]
  refine congrArg Real.toEReal ?_
  generalize (2 : ℝ) ^ ((k : ℤ) - 127) = x
  norm_num
  ring

/-- With the field 255 it is the infinity. -/
theorem ofBits_pat_top : Ideal.ofBits .f32 (pat 255) = ⊤ := by
  obtain ⟨e1, e2, e3⟩ := pat_fields (show 255 < 256 by omega)
  unfold Ideal.ofBits Ideal.ieee
  simp only []
  rw [show (8 + 23 : ℕ) = 31 from rfl, e1, e2, e3]
  norm_num

/-- The number of thresholds at or below `v`. -/
def cnt (v : EReal) : ℕ := (Finset.univ.filter fun k : Fin 256 => 0 < k.val ∧ Ideal.ofBits .f32 (pat k.val) ≤ v).card
/-- The exponent the kernel forms: 126 for the counts 0 and 255. -/
def field (v : EReal) : ℕ := if cnt v = 0 ∨ cnt v = 255 then 126 else cnt v
/-- The kernel's scale. -/
def scaleK (v : EReal) : EReal := Ideal.ofBits .f32 (pat (field v + 1))
/-- The kernel's reciprocal of the scale. -/
def invK (v : EReal) : EReal := Ideal.ofBits .f32 (pat (253 - field v))

/-- The exponent of the reference: one more than the floor of the logarithm to base 2, and 0 for 0. -/
def expo (a v : EReal) : EReal :=
  if a = 0 then 0 else Ideal.liftRound Int.floor (Ideal.div (Ideal.log v) ((Real.log 2 : ℝ) : EReal)) + 1

/-- A threshold is at or below a positive real exactly when its exponent is at or below the floor of the logarithm. -/
theorem pow_le_iff {r : ℝ} (hr : 0 < r) (z : ℤ) : (2 : ℝ) ^ z ≤ r ↔ z ≤ ⌊Real.log r / Real.log 2⌋ := by
  rw [Int.le_floor, le_div_iff₀ (Real.log_pos (by norm_num)), ← Real.log_zpow, Real.log_le_log_iff (by positivity) hr]

/-- For 0 no threshold counts. -/
theorem cnt_zero : cnt 0 = 0 := by
  unfold cnt
  rw [Finset.card_eq_zero, Finset.filter_eq_empty_iff]
  rintro k - ⟨h0, h⟩
  by_cases hk : k.val = 255
  · rw [hk, ofBits_pat_top] at h; exact absurd h (by simp)
  · rw [ofBits_pat (by omega) (by omega), ← EReal.coe_zero, EReal.coe_le_coe_iff] at h
    exact absurd h (not_le.2 (by positivity))

/-- For a normal number the count is its exponent field. -/
theorem cnt_normal {r : ℝ} (h1 : (2 : ℝ) ^ (-126 : ℤ) ≤ r) (h2 : r < (2 : ℝ) ^ (126 : ℤ)) :
    (1 : ℤ) ≤ ⌊Real.log r / Real.log 2⌋ + 127 ∧ ⌊Real.log r / Real.log 2⌋ + 127 ≤ 252 ∧ ((cnt (r : EReal) : ℕ) : ℤ) = ⌊Real.log r / Real.log 2⌋ + 127 := by
  have hr : 0 < r := lt_of_lt_of_le (by positivity) h1
  have a1 := (pow_le_iff hr (-126)).1 h1
  have a2 : ¬ (126 : ℤ) ≤ ⌊Real.log r / Real.log 2⌋ := fun h => absurd ((pow_le_iff hr 126).2 h) (not_le.2 h2)
  refine ⟨by omega, by omega, ?_⟩
  obtain ⟨n, hn⟩ : ∃ n : ℕ, (n : ℤ) = ⌊Real.log r / Real.log 2⌋ + 127 := ⟨_, Int.toNat_of_nonneg (by omega)⟩
  rw [← hn, Nat.cast_inj]
  unfold cnt
  have hlt : n < 256 := by omega
  have e : (Finset.univ.filter fun k : Fin 256 => 0 < k.val ∧ Ideal.ofBits .f32 (pat k.val) ≤ (r : EReal)) = Finset.Ioc (0 : Fin 256) ⟨n, hlt⟩ := by
    ext k
    rw [Finset.mem_filter, Finset.mem_Ioc, Fin.lt_def, Fin.le_def]
    simp only [Finset.mem_univ, true_and]
    show 0 < k.val ∧ _ ↔ 0 < k.val ∧ k.val ≤ n
    refine and_congr_right fun h0 => ?_
    by_cases hk : k.val = 255
    · rw [hk, ofBits_pat_top]
      exact ⟨fun h => absurd h (by simp), fun h => by omega⟩
    · rw [ofBits_pat (by omega) (by omega), EReal.coe_le_coe_iff, pow_le_iff hr]
      omega
  rw [e, Fin.card_Ioc]
  show n - 0 = n
  omega

/-- What the precondition says of a group: its greatest magnitude is 0, or that over 448 is a normal number below
    2 to the 126. -/
def Ok (a v : EReal) : Prop := a = 0 ∨ ((((2 : ℝ) ^ (-126 : ℤ) : ℝ) : EReal) ≤ v ∧ v < (((2 : ℝ) ^ (126 : ℤ) : ℝ) : EReal))

/-- Under the precondition the exponent leaves room for the reciprocal's. -/
theorem field_of_ok (a c : EReal) (h : Ok a (a * c)) : field (a * c) ≤ 252 := by
  by_cases ha : a = 0
  · subst ha; simp [field, cnt_zero]
  · obtain ⟨h1, h2⟩ := h.resolve_left ha
    generalize a * c = v at h1 h2 ⊢
    induction v with
    | bot => exact absurd h1 (by simp)
    | top => exact absurd h2 (by simp)
    | coe r =>
      rw [EReal.coe_le_coe_iff] at h1
      rw [EReal.coe_lt_coe_iff] at h2
      obtain ⟨b1, b2, b3⟩ := cnt_normal h1 h2
      unfold field; split <;> omega

/-- The kernel's scale and its reciprocal are two to the reference's exponent and to its negative. -/
theorem scale_inv (a c : EReal) (h : Ok a (a * c)) :
    scaleK (a * c) = Ideal.exp2 (expo a (a * c)) ∧ invK (a * c) = Ideal.exp2 (0 - expo a (a * c)) := by
  obtain ⟨e, he, hf, hk⟩ : ∃ e : ℤ, expo a (a * c) = ((e : ℝ) : EReal) ∧ ((field (a * c) : ℕ) : ℤ) = e + 126 ∧ 1 ≤ field (a * c) ∧ field (a * c) ≤ 252 := by
    by_cases ha : a = 0
    · subst ha
      refine ⟨0, by simp [expo], ?_, ?_⟩ <;> simp [field, cnt_zero]
    · obtain ⟨h1, h2⟩ := h.resolve_left ha
      unfold expo
      rw [if_neg ha]
      generalize a * c = v at h1 h2 ⊢
      induction v with
      | bot => exact absurd h1 (by simp)
      | top => exact absurd h2 (by simp)
      | coe r =>
        rw [EReal.coe_le_coe_iff] at h1
        rw [EReal.coe_lt_coe_iff] at h2
        obtain ⟨b1, b2, b3⟩ := cnt_normal h1 h2
        have hr : 0 < r := lt_of_lt_of_le (by positivity) h1
        have hl : Real.log 2 ≠ 0 := (Real.log_pos (by norm_num)).ne'
        refine ⟨⌊Real.log r / Real.log 2⌋ + 1, ?_, ?_, ?_⟩
        · rw [show Ideal.log (r : EReal) = ((Real.log r : ℝ) : EReal) from if_neg (not_le.2 hr), Ideal.div_coe hl, ← EReal.coe_mul, mul_one_div]
          show (((⌊Real.log r / Real.log 2⌋ : ℤ) : ℝ) : EReal) + 1 = _
          rw [← EReal.coe_one, ← EReal.coe_add]; push_cast; rfl
        · unfold field; rw [if_neg (by omega)]; omega
        · unfold field; rw [if_neg (by omega)]; omega
  have p2 : ∀ z : ℤ, Ideal.exp2 ((z : ℝ) : EReal) = (((2 : ℝ) ^ z : ℝ) : EReal) := fun z => by
    show ((Real.rpow 2 (z : ℝ) : ℝ) : EReal) = _
    rw [show Real.rpow 2 (z : ℝ) = (2 : ℝ) ^ (z : ℝ) from rfl, Real.rpow_intCast]
  refine ⟨?_, ?_⟩
  · unfold scaleK
    rw [he, p2, ofBits_pat (by omega) (by omega)]
    congr 3; push_cast; omega
  · unfold invK
    rw [he, ← EReal.coe_zero, ← EReal.coe_sub, show ((0 : ℝ) - (e : ℝ)) = ((-e : ℤ) : ℝ) by push_cast; ring, p2, ofBits_pat (by omega) (by omega)]
    congr 3; omega

/-! ## What both programs read off a group -/

/-- The constant the greatest magnitude is multiplied by: the f32 nearest 1 / 448. -/
def recip : EReal := Ideal.ofBits .f32 0x3B124925#32
/-- The greatest magnitude of a group. -/
def grpMax (f : Fin 128 → EReal) : EReal :=
  (Finset.univ : Finset (Fin 128)).fold max (Ideal.ofBits .f32 0xFF800000#32) fun j => max (f j) (-f j)
/-- A value held between -448 and 448. -/
def clip (v : EReal) : EReal := min (Ideal.ofBits .f32 0x43E00000#32) (max (Ideal.ofBits .f32 0xC3E00000#32) v)

/-- A count is at most 255. -/
theorem cnt_le (v : EReal) : cnt v ≤ 255 := by
  refine (Finset.card_le_card (t := Finset.univ.erase (0 : Fin 256)) fun k hk => ?_).trans (le_of_eq (by rw [Finset.card_erase_of_mem (Finset.mem_univ _)]; rfl))
  have h := (Finset.mem_filter.1 hk).2.1
  exact Finset.mem_erase.2 ⟨fun e => by rw [e] at h; exact absurd h (by decide), Finset.mem_univ _⟩

end Cert.Proof.Exponent

end
-- ==== Proof.RefValue.lean ====
/-
  The reference's results over the extended reals, element by element.
-/
module

public import proofs.«01_k».proof.Proof.Exponent
public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.Proof.RefValue

open Cert.ReferenceIdeal Cert.ReferenceIdeal.Gen
open Idealize.ShloMosaic
open Cert.Proof.Exponent

/-- Element `j` of group `g`, among a row's lanes. -/
abbrev lane (g : Fin 32) (j : Fin 128) : Fin 4096 := ⟨g.val * 128 + j.val, by omega⟩
/-- A lane's group. -/
abbrev grp' (l : Fin 4096) : Fin 32 := ⟨l.val / 128, by omega⟩
/-- A lane's place in its group. -/
abbrev loc' (l : Fin 4096) : Fin 128 := ⟨l.val % 128, by omega⟩
theorem lane_eq (l : Fin 4096) : lane (grp' l) (loc' l) = l := by
  apply Fin.ext; show l.val / 128 * 128 + l.val % 128 = l.val; omega

/-- The greatest magnitude of group `g` of row `t`. -/
abbrev amax (X : S24x1x4096.Idx → EReal) (t : Fin 24) (g : Fin 32) : EReal := grpMax fun j => X (ix3 t 0 (lane g j))
/-- The group's exponent. -/
abbrev ex (X : S24x1x4096.Idx → EReal) (t : Fin 24) (g : Fin 32) : EReal := expo (amax X t g) (amax X t g * recip)

theorem pay3_apply (X : Vec Ideal S24x1x4096 .bf16) (t : Fin 24) (g : Fin 32) :
    k0_pay3 (F := Ideal) X (ix2 t g) = ex X t g := by
  pointwise [k0_pay3, k0_pay2]
  rw [IdealRules.named_const.ideal_named_scalar _ _ _ _ rfl]
  rfl

theorem pay4_apply (X : Vec Ideal S24x1x4096 .bf16) (t : Fin 24) (g : Fin 32) :
    k0_pay4 (F := Ideal) X (ix2 t g) = Ideal.exp2 (ex X t g) := by
  rw [← pay3_apply]
  pointwise [k0_pay4]
  rfl

theorem pay5_apply (X : Vec Ideal S24x1x4096 .bf16) (t : Fin 24) (g : Fin 32) (j : Fin 128) :
    k0_pay5 (F := Ideal) X (ix3 t g j) = clip (X (ix3 t 0 (lane g j)) * Ideal.exp2 (0 - ex X t g)) := by
  rw [← pay3_apply]
  pointwise [k0_pay5, k0_pay2]
  rfl

/-- The codes. -/
theorem pay6_apply (X : Vec Ideal S24x1x4096 .bf16) (t : Fin 24) (l : Fin 4096) :
    k0_pay6 (F := Ideal) X (ix3 t 0 l) = clip (X (ix3 t 0 l) * Ideal.exp2 (0 - ex X t (grp' l))) := by
  have e : k0_pay6 (F := Ideal) X (ix3 t 0 l) = k0_pay5 (F := Ideal) X (ix3 t (grp' l) (loc' l)) := by pointwise [k0_pay6]
  rw [e, pay5_apply, lane_eq]

/-- The scales. -/
theorem pay7_apply (X : Vec Ideal S24x1x4096 .bf16) (t : Fin 24) (g : Fin 32) :
    k0_pay7 (F := Ideal) X (ix3 t 0 g) = Ideal.exp2 (ex X t g) := by
  rw [← pay4_apply]
  pointwise [k0_pay7]

/-- The products. -/
theorem pay1_apply (W : Vec Ideal S14336x4096 .fp8e4m3) (S : Vec Ideal S112x32 .f32) (X : Vec Ideal S24x1x4096 .bf16) (t : Fin 24) (n : Fin 14336) :
    k0_pay1 (F := Ideal) W S (k0_pay4 (F := Ideal) X) (k0_pay8 (F := Ideal) X) (ix3 t 0 n)
      = ∑ l : Fin 4096, clip (X (ix3 t 0 l) * Ideal.exp2 (0 - ex X t (grp' l))) * Ideal.exp2 (ex X t (grp' l)) * S (ix2 ⟨n.val / 128, by omega⟩ (grp' l)) * W (ix2 n l) := by
  have e : k0_pay1 (F := Ideal) W S (k0_pay4 (F := Ideal) X) (k0_pay8 (F := Ideal) X) (ix3 t 0 n)
      = ∑ l : Fin 4096, k0_pay8 (F := Ideal) X (ix3 t (grp' l) (loc' l)) * k0_pay4 (F := Ideal) X (ix2 t (grp' l)) * S (ix2 ⟨n.val / 128, by omega⟩ (grp' l)) * W (ix2 n l) := by
    generalize k0_pay4 (F := Ideal) X = a
    generalize k0_pay8 (F := Ideal) X = q
    pointwise [k0_pay1]
  rw [e]
  refine Finset.sum_congr rfl fun l _ => ?_
  have e8 : k0_pay8 (F := Ideal) X (ix3 t (grp' l) (loc' l)) = k0_pay5 (F := Ideal) X (ix3 t (grp' l) (loc' l)) := by pointwise [k0_pay8]
  rw [e8, pay5_apply, pay4_apply, lane_eq]

/-! ## The three results' buffers -/

variable (x0 : Vec Ideal S24x1x4096 .bf16) (x1 : Vec Ideal S14336x4096 .fp8e4m3) (x2 : Vec Ideal S112x32 .f32)

theorem out3 : out0_3 (F := Ideal) x0 x1 x2 = k0_pay1 x1 x2 (k0_pay4 x0) (k0_pay8 x0) := by
  unfold out0_3
  rw [View.canon_unit_zero (by funext a; fin_cases a <;> rfl), View.ld_unit_zero (by funext a; fin_cases a <;> rfl), View.ld_unit_zero (by funext a; fin_cases a <;> rfl), View.ld_unit_zero (by funext a; fin_cases a <;> rfl)]
theorem out4 : out0_4 (F := Ideal) x0 x1 x2 = k0_pay6 x0 := by
  unfold out0_4
  rw [View.canon_unit_zero (by funext a; fin_cases a <;> rfl), View.ld_unit_zero (by funext a; fin_cases a <;> rfl)]
theorem out5 : out0_5 (F := Ideal) x0 x1 x2 = k0_pay7 x0 := by
  unfold out0_5
  rw [View.canon_unit_zero (by funext a; fin_cases a <;> rfl), View.ld_unit_zero (by funext a; fin_cases a <;> rfl)]

section Run
open Idealize.ShloMosaic.TcCoe Idealize.SL.Sem

variable (m : (ℓ : Loc nD τ sig) → Buf (Elt Ideal) ℓ) (ρ : Dev nD → PrngReg) (c : Dev nD)

theorem index0 : ∀ t : Fin cfg0.N, win0_0.index t = ![0, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- An input's block is the argument itself. -/
theorem iblk0 (t : Fin cfg0.N) : iblk m c 0 t = m ((c.tc : Thread nD τ).loc main_arg0) := by
  funext i
  blk_simp [iblk]
  refine congrArg _ ?_
  blk_ext [index0]
theorem iblk1 (t : Fin cfg0.N) : iblk m c 1 t = m ((c.tc : Thread nD τ).loc main_arg1) := by
  funext i
  blk_simp [iblk]
  refine congrArg _ ?_
  blk_ext [index1]
theorem iblk2 (t : Fin cfg0.N) : iblk m c 2 t = m ((c.tc : Thread nD τ).loc main_arg2) := by
  funext i
  blk_simp [iblk]
  refine congrArg _ ?_
  blk_ext [index2]

theorem final3 : (dats (F := Ideal) m 0 c).arrAt 3 cfg0.N = k0_pay1 (F := Ideal) (m ((c.tc : Thread nD τ).loc main_arg1)) (m ((c.tc : Thread nD τ).loc main_arg2))
    (k0_pay4 (F := Ideal) (m ((c.tc : Thread nD τ).loc main_arg0))) (k0_pay8 (F := Ideal) (m ((c.tc : Thread nD τ).loc main_arg0))) := by
  refine (dats (F := Ideal) m 0 c).arrAt_eq_of_after_last 3 t0_0 (by decide +kernel) _ fun j => ?_
  blk_simp
  rw [after0_3, out3, iblk0, iblk1, iblk2]
theorem final4 : (dats (F := Ideal) m 0 c).arrAt 4 cfg0.N = k0_pay6 (F := Ideal) (m ((c.tc : Thread nD τ).loc main_arg0)) := by
  refine (dats (F := Ideal) m 0 c).arrAt_eq_of_after_last 4 t0_0 (by decide +kernel) _ fun j => ?_
  blk_simp
  rw [after0_4, out4, iblk0]
theorem final5 : (dats (F := Ideal) m 0 c).arrAt 5 cfg0.N = k0_pay7 (F := Ideal) (m ((c.tc : Thread nD τ).loc main_arg0)) := by
  refine (dats (F := Ideal) m 0 c).arrAt_eq_of_after_last 5 t0_0 (by decide +kernel) _ fun j => ?_
  blk_simp
  rw [after0_5, out5, iblk0]

/-- Every run of the reference ends with its three results at their values and the arguments unchanged. -/
theorem run_results : θ_run defs (onTc (τ := τ) (main (F := Ideal))) ⟨m, fun _ => 0, ρ⟩ (fun r => ∀ c : Dev nD,
      r.2.mem ((c.tc : Thread nD τ).loc main_v0_0) = k0_pay1 (F := Ideal) (m ((c.tc : Thread nD τ).loc main_arg1)) (m ((c.tc : Thread nD τ).loc main_arg2))
          (k0_pay4 (F := Ideal) (m ((c.tc : Thread nD τ).loc main_arg0))) (k0_pay8 (F := Ideal) (m ((c.tc : Thread nD τ).loc main_arg0)))
      ∧ r.2.mem ((c.tc : Thread nD τ).loc main_v0_1) = k0_pay6 (F := Ideal) (m ((c.tc : Thread nD τ).loc main_arg0))
      ∧ r.2.mem ((c.tc : Thread nD τ).loc main_v0_2) = k0_pay7 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.out_eq c 3).trans (final3 m c), (h.out_eq c 4).trans (final4 m c), (h.out_eq c 5).trans (final5 m c),
      (h.in_eq c 0 rfl).trans ((A_eq m c 0).trans (V_main_arg0 m c)), (h.in_eq c 1 rfl).trans ((A_eq m c 1).trans (V_main_arg1 m c)),
      (h.in_eq c 2 rfl).trans ((A_eq m c 2).trans (V_main_arg2 m c))⟩) (run_main (F := Ideal) m ρ)

end Run

end Cert.Proof.RefValue

end
-- ==== Proof.KernValue.lean ====
/-
  The kernel's results over the extended reals, element by element.
-/
module

public import proofs.«01_k».proof.Proof.Exponent
public import proofs.«01_k».proof.Proof.IdealRun
public import Idealize.ShloMosaic.Lib.Pointwise
public import Idealize.ShloMosaic.Lib.IndicatorCount

@[expose] public section

set_option maxRecDepth 16384

noncomputable section

namespace Cert.Proof.KernValue

open Cert.KernelIdeal Cert.KernelIdeal.Gen
open Idealize.ShloMosaic Idealize.ShloMosaic.TcCoe
open Cert.Proof.Exponent Cert.Proof.IdealBody

/-! ## One group -/

/-- The greatest magnitude of row `t` of a group, times the constant. -/
abbrev gv (x : S24x128.Idx → EReal) (t : Fin 24) : EReal := grpMax (fun j => x (ix2 t j)) * recip

theorem ori_eq_one (a b : BitVec 1) : IntOp.ori a b = 1#1 ↔ a = 1#1 ∨ b = 1#1 := by
  revert a b; decide
theorem andi_eq_one (a b : BitVec 1) : IntOp.andi a b = 1#1 ↔ a = 1#1 ∧ b = 1#1 := by
  revert a b; decide
theorem ofBool_eq_one (b : Bool) : BitVec.ofBool b = 1#1 ↔ b = true := by
  cases b <;> decide

/-- The exponent counted off is the count. -/
theorem pay41_apply (x : Vec Ideal S24x128 .bf16) (t : Fin 24) :
    k0_pay41 (F := Ideal) x (ix2 t 0) = BitVec.ofNat 32 (cnt (gv x t)) := by
  pointwise [k0_pay41, k0_pay40]
  refine (IndicatorCount.fold_addi_setWidth_eq_card _ _).trans (congrArg (BitVec.ofNat 32) ?_)
  unfold cnt
  congr 1
  ext k
  rw [Finset.mem_filter, Finset.mem_filter, andi_eq_one, ofBool_eq_one, decide_eq_true_iff]
  refine and_congr_right fun _ => and_congr ?_ Iff.rfl
  have : ∀ k : Fin 256, IntOp.cmpi .sgt (BitVec.ofNat 32 k.val) 0#32 = 1#1 ↔ 0 < k.val := by decide
  exact this k

/-- The exponent the kernel goes on with. -/
theorem sel_apply (x : Vec Ideal S24x128 .bf16) (t : Fin 24) :
    Scalar.select (k0_pay42 (F := Ideal) x (ix2 t 0)) (k0_pay43 (ix2 t 0)) (k0_pay41 (F := Ideal) x (ix2 t 0)) = BitVec.ofNat 32 (field (gv x t)) := by
  have e : k0_pay42 (F := Ideal) x (ix2 t 0) = IntOp.ori (IntOp.cmpi CmpIPredicate.eq (k0_pay41 (F := Ideal) x (ix2 t 0)) 0#32)
      (IntOp.cmpi CmpIPredicate.eq (k0_pay41 (F := Ideal) x (ix2 t 0)) 255#32) := by pointwise [k0_pay42]
  rw [e, pay41_apply]
  show Scalar.select _ 126#32 _ = _
  have h := cnt_le (gv x t)
  unfold field
  generalize cnt (gv x t) = n at h ⊢
  have : ∀ n : Fin 256, Scalar.select (IntOp.ori (IntOp.cmpi CmpIPredicate.eq (BitVec.ofNat 32 n.val) 0#32) (IntOp.cmpi CmpIPredicate.eq (BitVec.ofNat 32 n.val) 255#32)) 126#32 (BitVec.ofNat 32 n.val)
      = BitVec.ofNat 32 (if n.val = 0 ∨ n.val = 255 then 126 else n.val) := by decide
  exact this ⟨n, by omega⟩

theorem gScale_apply (x : Vec Ideal S24x128 .bf16) (t : Fin 24) : gScale (F := Ideal) x (ix2 t 0) = scaleK (gv x t) := by
  pointwise [gScale, k0_pay45, k0_pay44]
  rw [sel_apply]
  unfold scaleK pat
  congr 2
  exact (BitVec.ofNat_add _ _).symm

theorem gCodes_apply (x : Vec Ideal S24x128 .bf16) (t : Fin 24) (j : Fin 128) (h : field (gv x t) ≤ 252) :
    gCodes (F := Ideal) x (ix2 t j) = clip (x (ix2 t j) * invK (gv x t)) := by
  pointwise [gCodes, k0_pay47, k0_pay46, k0_pay44, k0_pay40]
  rw [sel_apply]
  unfold invK pat clip
  generalize field (gv x t) = n at h ⊢
  congr 5
  have : ∀ n : Fin 253, IntOp.subi 253#32 (BitVec.ofNat 32 n.val) = BitVec.ofNat 32 (253 - n.val) := by decide
  exact this ⟨n, by omega⟩

theorem gXd_apply (x : Vec Ideal S24x128 .bf16) (t : Fin 24) (j : Fin 128) (h : field (gv x t) ≤ 252) :
    gXd (F := Ideal) x (ix2 t j) = clip (x (ix2 t j) * invK (gv x t)) * scaleK (gv x t) := by
  rw [← gCodes_apply x t j h, ← gScale_apply]
  pointwise [gXd, k0_pay48, gCodes, gScale, k0_pay47]

/-! ## The groups of the activations -/

/-- Element `l` of group `g`'s lanes. -/
abbrev lane (g : Fin 32) (j : Fin 128) : Fin 4096 := ⟨128 * g.val + j.val, by omega⟩

theorem blk_apply {α : Type} (X : S24x4096.Idx → α) (g : Fin 32) (t : Fin 24) (j : Fin 128) : blk X g.val (ix2 t j) = X (ix2 t (lane g j)) := by
  unfold blk
  congr 1; funext a; apply Fin.ext
  have hg := g.isLt
  fin_cases a
  · exact tile_emb0 g.val (ix2 t j)
  · refine (tile_emb1 g.val (ix2 t j)).trans ?_
    show 128 * (g.val % 32) + j.val = 128 * g.val + j.val
    omega

/-- The lane's group and its place in it. -/
abbrev grp' (l : Fin 4096) : Fin 32 := ⟨l.val / 128, by omega⟩
abbrev loc' (l : Fin 4096) : Fin 128 := ⟨l.val % 128, by omega⟩
theorem lane_eq (l : Fin 4096) : lane (grp' l) (loc' l) = l := by
  apply Fin.ext; show 128 * (l.val / 128) + l.val % 128 = l.val; omega

theorem locT_ix (t : Fin 24) (l : Fin 4096) : locT (ix2 t l) = ix2 t (loc' l) := by
  funext a; apply Fin.ext; fin_cases a <;> rfl

/-- What is read of group `g` of row `t`. -/
abbrev xv (X : S24x4096.Idx → EReal) (t : Fin 24) (g : Fin 32) : EReal := grpMax (fun j => X (ix2 t (lane g j))) * recip

theorem gv_blk (X : S24x4096.Idx → EReal) (t : Fin 24) (g : Fin 32) : gv (blk X g.val) t = xv X t g := by
  unfold gv xv; congr 2; funext j; exact blk_apply X g t j

theorem codesV_apply (X : S24x4096.Idx → EReal) (t : Fin 24) (l : Fin 4096) (h : field (xv X t (grp' l)) ≤ 252) :
    codesV (F := Ideal) X (ix2 t l) = clip (X (ix2 t l) * invK (xv X t (grp' l))) := by
  show gCodes (F := Ideal) (blk X (grp' l).val) (locT (ix2 t l)) = _
  rw [locT_ix, gCodes_apply _ _ _ (by rw [gv_blk]; exact h), gv_blk, blk_apply, lane_eq]

theorem xdV_apply (X : S24x4096.Idx → EReal) (t : Fin 24) (l : Fin 4096) (h : field (xv X t (grp' l)) ≤ 252) :
    xdV (F := Ideal) X (ix2 t l) = clip (X (ix2 t l) * invK (xv X t (grp' l))) * scaleK (xv X t (grp' l)) := by
  show gXd (F := Ideal) (blk X (grp' l).val) (locT (ix2 t l)) = _
  rw [locT_ix, gXd_apply _ _ _ (by rw [gv_blk]; exact h), gv_blk, blk_apply, lane_eq]

theorem gSel_apply (n : ℕ) (hn : n < 32) (a : FVec Ideal S24x32 .f32) (s : FVec Ideal S24x1 .f32) (t : Fin 24) (g : Fin 32) :
    gSel n a s (ix2 t g) = if g.val = n then s (ix2 t 0) else a (ix2 t g) := by
  pointwise [gSel]
  have : ∀ g n : Fin 32, IntOp.cmpi .eq (BitVec.ofNat 32 g.val) (BitVec.ofNat 32 n.val) = if g.val = n.val then 1#1 else 0#1 := by decide
  rw [this g ⟨n, hn⟩]
  show Scalar.select (if g.val = n then 1#1 else 0#1) _ _ = _
  by_cases h : g.val = n
  · rw [if_pos h, if_pos h]; rfl
  · rw [if_neg h, if_neg h]; rfl

theorem scaleN_apply (X : S24x4096.Idx → EReal) (t : Fin 24) (g : Fin 32) (n : ℕ) (hn : n ≤ 32) (h : g.val < n) :
    scaleN (F := Ideal) X n (ix2 t g) = scaleK (xv X t g) := by
  induction n with
  | zero => omega
  | succ n ih =>
    rw [scaleN, gSel_apply n (by omega)]
    by_cases e : g.val = n
    · rw [if_pos e, ← e, gScale_apply, gv_blk]
    · rw [if_neg e, ih (by omega) (by omega)]

theorem scalesV_apply (X : S24x4096.Idx → EReal) (t : Fin 24) (g : Fin 32) : scalesV (F := Ideal) X (ix2 t g) = scaleK (xv X t g) :=
  scaleN_apply X t g 32 le_rfl g.isLt

/-! ## One trip's columns -/

theorem pay2_apply (xd : Vec Ideal S24x4096 .f32) (r0 r1 : Vec Ideal S1x4096 .f32) (w : Vec Ideal S1x256x4096 .fp8e4m3)
    (t : Fin 24) (n : Fin 256) : k0_pay2 (F := Ideal) xd r0 r1 w (ix2 t n) = ∑ l : Fin 4096, xd (ix2 t l) * (if n.val < 128 then r0 (ix2 0 l) else r1 (ix2 0 l)) * w (ix3 0 n l) := by
  pointwise [k0_pay2]
  split
  · rfl
  · rename_i h
    refine Finset.sum_congr rfl fun l _ => ?_
    congr 2
    congr 1
    apply Fin.ext
    show 128 + (n.val - 128) = n.val
    omega

theorem pay3_apply (w : Vec Ideal S32x112 .f32) (o : Fin 112) (g : Fin 32) : k0_pay3 (F := Ideal) w (ix2 o g) = w (ix2 g o) := by
  pointwise [k0_pay3]

section Trip
variable (c : Dev nD) (XA : Buf (Elt Ideal) (wM.view.loc (c : Thread nD τ)))

/-- A load of slot `s` through the whole buffer reads what the slot's own view reads. -/
theorem slot_read (s : Fin 16) (off : Fin 3 → ℕ) (inb : ∀ a, off a + S1x256x4096.size a ≤ S16x256x4096.size a) (ho : off = slotOff s)
    (f : (rslot s).view.ty.Contents (Elt Ideal)) (n : Fin 256) (l : Fin 4096) :
    bufM.view.readAt (Elt Ideal) (Rect.unit (s := S16x256x4096) off S1x256x4096.size inb).toLoadRect f (ix3 0 n l)
      = View.read (Elt Ideal) (rslot s).view f (ix2 n l) := by
  subst ho
  have er : Shape.reshapeEquiv squeezes_S1x256x4096_S256x4096.numel_eq (ix2 n l) = (ix3 0 n l : S1x256x4096.Idx) := by
    pointwise
  have e : (rslot s).view.emb (ix2 n l) = (Rect.unit (s := S16x256x4096) (slotOff s) S1x256x4096.size inb).emb (ix3 0 n l) := by
    rw [← er]; rfl
  exact congrArg f e.symm

/-- What a trip reads of its slot is its block of the weight. -/
theorem block_apply (k : Fin k0_t1_loop.trips) (n : Fin 256) (l : Fin 4096) :
    bufM.view.readAt (Elt Ideal) (Rect.unit (s := S16x256x4096) (k0_off5 k) S1x256x4096.size (k0_off5_inb k)).toLoadRect
      (landed c XA (Ring.sl 16 k.val) (Ring.bk 56 k.val) (rslot (Ring.sl 16 k.val)).view.junk) (ix3 0 n l)
      = XA (ix2 ⟨256 * k.val + n.val, by have := k_lt k; omega⟩ l) := by
  have hk : (Ring.bk 56 k.val).val = k.val := Ring.bk_val (k_lt k)
  have h := View.read_writes_cons_emb (rslot (Ring.sl 16 k.val)).view (rslot (Ring.sl 16 k.val)).view.junk (Rect.whole S256x4096) (payload c XA (Ring.bk 56 k.val)) [] (ix2 n l)
  rw [Rect.emb_whole_apply] at h
  refine (slot_read (Ring.sl 16 k.val) _ _ (off5_eq k) _ n l).trans (h.trans ?_)
  generalize Ring.bk 56 k.val = b at hk ⊢
  have e : (Rect.unit (s := S14336x4096) (grpOff b) S256x4096.size (grpOff_inb b)).emb (ix2 n l) = (ix2 ⟨256 * k.val + n.val, by have := k_lt k; omega⟩ l : S14336x4096.Idx) := by
    funext a; apply Fin.ext
    rw [Rect.emb_apply]
    fin_cases a
    · show 256 * b.val + 1 * n.val = 256 * k.val + n.val
      omega
    · show 0 + 1 * l.val = l.val
      omega
  rw [← e]
  rfl

/-- The two rows of scales a trip reads: the trip's first 128 columns take the first, the last 128 the second. -/
theorem row_apply (WV : S32x112.Idx → EReal) (off : Fin 2 → ℕ) (inb : ∀ a, off a + S1x4096.size a ≤ S112x4096.size a) (o : ℕ) (ho : o < 112) (e : off = ![o, 0]) (l : Fin 4096) :
    wsxM.view.readAt (Elt Ideal) (Rect.unit (s := S112x4096) off S1x4096.size inb).toLoadRect (wsxV (F := Ideal) WV) (ix2 0 l)
      = WV (ix2 (grp' l) ⟨o, ho⟩) := by
  subst e
  have h : (Rect.unit (s := S112x4096) ![o, 0] S1x4096.size inb).emb (ix2 0 l) = (ix2 ⟨o, ho⟩ l : S112x4096.Idx) := by
    funext a; apply Fin.ext
    rw [Rect.emb_apply]
    fin_cases a
    · show o + 1 * 0 = o; omega
    · show 0 + 1 * l.val = l.val; omega
  show wsxV (F := Ideal) WV ((Rect.unit (s := S112x4096) ![o, 0] S1x4096.size inb).emb (ix2 0 l)) = _
  rw [h, ← pay3_apply WV ⟨o, ho⟩ (grp' l)]
  unfold wsxV
  congr 1; funext a; apply Fin.ext; fin_cases a <;> rfl

/-- The products: column `n` of row `t`. -/
theorem yV_apply (X : S24x4096.Idx → EReal) (WV : S32x112.Idx → EReal) (t : Fin 24) (n : Fin 14336) :
    yV (F := Ideal) c XA X WV (ix2 t n) = ∑ l : Fin 4096, xdV (F := Ideal) X (ix2 t l) * WV (ix2 (grp' l) ⟨n.val / 128, by omega⟩) * XA (ix2 n l) := by
  have hn := n.isLt
  have ek : n.val / 256 < k0_t1_loop.trips := by rw [trips_eq]; omega
  have e0 : locY (ix2 t n) = ix2 t (⟨n.val % 256, by omega⟩ : Fin 256) := by
    funext a; apply Fin.ext; fin_cases a <;> rfl
  show tripPay c XA (xdV (F := Ideal) X) (wsxV (F := Ideal) WV) ⟨n.val / 256, ek⟩ (locY (ix2 t n)) = _
  rw [e0]
  unfold tripPay
  rw [pay2_apply]
  refine Finset.sum_congr rfl fun l _ => ?_
  rw [block_apply, row_apply WV _ _ (2 * (n.val / 256)) (by omega) (off1_eq0 _), row_apply WV _ _ (2 * (n.val / 256) + 1) (by omega) (off1_eq1 _)]
  have e1 : xdM.view.readAt (Elt Ideal) (Rect.unit (s := S24x4096) ![0, 0] S24x4096.size inb_S24x4096_S24x4096_0_0).toLoadRect (xdV (F := Ideal) X) (ix2 t l) = xdV (F := Ideal) X (ix2 t l) := by
    show xdV (F := Ideal) X ((Rect.unit (s := S24x4096) ![0, 0] S24x4096.size inb_S24x4096_S24x4096_0_0).emb (ix2 t l)) = _
    congr 1; funext a; apply Fin.ext
    rw [Rect.emb_apply]
    fin_cases a
    · show 0 + 1 * t.val = t.val; omega
    · show 0 + 1 * l.val = l.val; omega
  rw [e1]
  have e2 : (⟨256 * (n.val / 256) + n.val % 256, by omega⟩ : Fin 14336) = n := Fin.ext (by show 256 * (n.val / 256) + n.val % 256 = n.val; omega)
  show _ * (if n.val % 256 < 128 then _ else _) * XA (ix2 (⟨256 * (n.val / 256) + n.val % 256, _⟩ : Fin 14336) l) = _
  rw [e2]
  congr 2
  split
  · congr 2; apply Fin.ext; show 2 * (n.val / 256) = n.val / 128; omega
  · congr 2; apply Fin.ext; show 2 * (n.val / 256) + 1 = n.val / 128; omega

end Trip

end Cert.Proof.KernValue

end
-- ==== Proof.Value.lean ====
/-
  The kernel's three results and the reference's, equal element by element over the extended reals.
-/
module

public import proofs.«01_k».proof.Defs
public import proofs.«01_k».proof.Proof.KernValue
public import proofs.«01_k».proof.Proof.RefValue

@[expose] public section

set_option maxRecDepth 16384

noncomputable section

namespace Cert.Proof.Value

open Idealize.ShloMosaic Idealize.ShloMosaic.TcCoe
open Cert.Proof.Exponent

/-! ## The precondition -/

/-- The side conditions the precondition's operations take. -/
theorem preFacts : Cert.Pre_scaled_maximum_is_normal.Facts where
  bitsLt_bf16_f32 := by decide
  shapeCasts_S24x1x4096_S24x32x128 := by decide
  reducesTo_S24x32x128_S24x32_d2 := by decide
  h_S_ := by decide
  bcast_S_S24x32 := by decide

/-- What the precondition says of each group. -/
theorem pre_ok (x : FVec Ideal Cert.KernelIdeal.S24x1x4096 .bf16) (w : FVec Ideal Cert.KernelIdeal.S14336x4096 .fp8e4m3) (s : FVec Ideal Cert.KernelIdeal.S112x32 .f32)
    (h : @Cert.Pre_scaled_maximum_is_normal.fn preFacts Ideal _ x w s = fun _ => 1#1) (t : Fin 24) (g : Fin 32) :
    Ok (RefValue.amax x t g) (RefValue.amax x t g * recip) := by
  have e : @Cert.Pre_scaled_maximum_is_normal.fn preFacts Ideal _ x w s (ix2 t g) =
     IntOp.ori (Ideal.cmp .oeq (RefValue.amax x t g) 0) (IntOp.andi (Ideal.cmp .oge (RefValue.amax x t g * recip) (Ideal.ofBits .f32 (pat 1))) (Ideal.cmp .olt (RefValue.amax x t g * recip) (Ideal.ofBits .f32 (pat 253)))) := by
    pointwise [Cert.Pre_scaled_maximum_is_normal.fn]
    rfl
  rw [h] at e
  rcases (KernValue.ori_eq_one _ _).1 e.symm with h0 | h0
  · exact Or.inl ((Ideal.cmp_oeq_eq_one _ _).1 h0)
  · obtain ⟨h1, h2⟩ := (KernValue.andi_eq_one _ _).1 h0
    have h1' := (Ideal.cmp_oge_eq_one _ _).1 h1
    have h2' := (Ideal.cmp_olt_eq_one _ _).1 h2
    rw [ofBits_pat (by omega) (by omega)] at h1' h2'
    exact Or.inr ⟨h1', h2'⟩

/-! ## The arguments in the kernel's shapes -/

section Shapes
open Cert.KernelIdeal Cert.KernelIdeal.Gen

theorem cast_x (A : S24x1x4096.Idx → EReal) (t : Fin 24) (l : Fin 4096) : shapeCast S24x4096 A shapeCasts_S24x1x4096_S24x4096 (ix2 t l) = A (ix3 t 0 l) := by pointwise
theorem cast_s (A : S112x32.Idx → EReal) (g : Fin 32) (o : Fin 112) : transpose S32x112 [1, 0] A transposes_S112x32_S32x112_1_0 (ix2 g o) = A (ix2 o g) := by pointwise
theorem cast_y (Y : S24x14336.Idx → EReal) (t : Fin 24) (n : Fin 14336) : shapeCast S24x1x14336 Y shapeCasts_S24x14336_S24x1x14336 (ix3 t 0 n) = Y (ix2 t n) := by pointwise
theorem cast_q (Y : S24x4096.Idx → EReal) (t : Fin 24) (l : Fin 4096) : shapeCast S24x1x4096 Y shapeCasts_S24x4096_S24x1x4096 (ix3 t 0 l) = Y (ix2 t l) := by pointwise
theorem cast_a (Y : S24x32.Idx → EReal) (t : Fin 24) (g : Fin 32) : shapeCast S24x1x32 Y shapeCasts_S24x32_S24x1x32 (ix3 t 0 g) = Y (ix2 t g) := by pointwise

/-- The kernel's group maximum is the reference's. -/
theorem xv_eq (A : S24x1x4096.Idx → EReal) (t : Fin 24) (g : Fin 32) :
    KernValue.xv (shapeCast S24x4096 A shapeCasts_S24x1x4096_S24x4096) t g = RefValue.amax A t g * recip := by
  unfold KernValue.xv RefValue.amax
  congr 2
  funext j
  rw [cast_x]
  congr 2
  apply Fin.ext
  show 128 * g.val + j.val = g.val * 128 + j.val
  omega

end Shapes

/-! ## The results -/

section Results
open Cert.KernelIdeal Cert.KernelIdeal.Gen Cert.Proof.IdealBody

variable (m : (ℓ : Loc nD τ sig) → Buf (Elt Ideal) ℓ) (c : Dev nD)

abbrev argX : S24x1x4096.Idx → EReal := m ((c.tc : Thread nD τ).loc main_arg0)
abbrev argW : S14336x4096.Idx → EReal := m ((c.tc : Thread nD τ).loc main_arg1)
abbrev argS : S112x32.Idx → EReal := m ((c.tc : Thread nD τ).loc main_arg2)

variable (hok : ∀ t g, Ok (RefValue.amax (argX m c) t g) (RefValue.amax (argX m c) t g * recip))
include hok

theorem res0_eq : res0 (F := Ideal) m c = Cert.ReferenceIdeal.Gen.k0_pay1 (F := Ideal) (argW m c) (argS m c) (Cert.ReferenceIdeal.Gen.k0_pay4 (argX m c)) (Cert.ReferenceIdeal.Gen.k0_pay8 (argX m c)) := by
  funext i
  obtain ⟨t, u, n, rfl⟩ : ∃ (t : Fin 24) (u : Fin 1) (n : Fin 14336), i = ix3 t u n := ⟨_, _, _, eq_ix3 i⟩
  obtain rfl : u = 0 := Subsingleton.elim _ _
  rw [RefValue.pay1_apply]
  refine (cast_y _ t n).trans ((KernValue.yV_apply c _ _ _ t n).trans (Finset.sum_congr rfl fun l _ => ?_))
  have h := hok t (RefValue.grp' l)
  obtain ⟨e1, e2⟩ := scale_inv _ _ h
  rw [KernValue.xdV_apply _ _ _ (by rw [xv_eq]; exact field_of_ok _ _ h), xv_eq, cast_x, e1, e2, cast_s]

theorem res1_eq : res1 (F := Ideal) m c = Cert.ReferenceIdeal.Gen.k0_pay6 (F := Ideal) (argX m c) := by
  funext i
  obtain ⟨t, u, l, rfl⟩ : ∃ (t : Fin 24) (u : Fin 1) (l : Fin 4096), i = ix3 t u l := ⟨_, _, _, eq_ix3 i⟩
  obtain rfl : u = 0 := Subsingleton.elim _ _
  rw [RefValue.pay6_apply]
  have h := hok t (RefValue.grp' l)
  obtain ⟨e1, e2⟩ := scale_inv _ _ h
  refine (cast_q _ t l).trans ?_
  rw [KernValue.codesV_apply _ _ _ (by rw [xv_eq]; exact field_of_ok _ _ h), xv_eq, cast_x, e2]

theorem res2_eq : res2 (F := Ideal) m c = Cert.ReferenceIdeal.Gen.k0_pay7 (F := Ideal) (argX m c) := by
  funext i
  obtain ⟨t, u, g, rfl⟩ : ∃ (t : Fin 24) (u : Fin 1) (g : Fin 32), i = ix3 t u g := ⟨_, _, _, eq_ix3 i⟩
  obtain rfl : u = 0 := Subsingleton.elim _ _
  rw [RefValue.pay7_apply]
  refine (cast_a _ t g).trans ?_
  rw [KernValue.scalesV_apply, xv_eq, (scale_inv _ _ (hok t g)).1]

end Results

end Cert.Proof.Value

end
-- ==== Proof.lean ====
/-
  The proof of `Cert.Claim`.
-/
module

public import proofs.«01_k».proof.Defs
public import proofs.«01_k».proof.Proof.IdealRun
public import proofs.«01_k».proof.Proof.KernelRun
public import proofs.«01_k».proof.Proof.RefValue
public import proofs.«01_k».proof.Proof.Value

@[expose] public section

noncomputable section

namespace Cert.Proof

open Idealize.ShloMosaic Idealize.SL.Sem

/-- The kernel at bits ends with its arguments unchanged and its semaphores at zero. -/
theorem kernel_quiescent : Cert.quiescent_Kernel (hKernel := Cert.Kernel.Gen.facts) := fun m ρ _ =>
  (θ_run Cert.Kernel.defs _ _).mono (fun _ (h : _ ∧ _) => ⟨fun c => (h.1 c).2, h.2⟩) (KernelBody.run_results (F := Bits) m ρ)

/-- The kernel over the extended reals likewise. -/
theorem ideal_quiescent : Cert.quiescent_KernelIdeal (hKernelIdeal := Cert.KernelIdeal.Gen.facts) := fun m ρ _ =>
  (θ_run Cert.KernelIdeal.defs _ _).mono (fun _ (h : _ ∧ _) => ⟨fun c => (h.1 c).2, h.2⟩) (IdealBody.run_results (F := Ideal) m ρ)

/-- Over the extended reals the kernel's three results are the reference's. -/
theorem algebraic : Cert.algebraic_KernelIdeal_ReferenceIdeal_pre_scaled_maximum_is_normal (hKernelIdeal := Cert.KernelIdeal.Gen.facts)
    (hReferenceIdeal := Cert.ReferenceIdeal.Gen.facts) (hPre_scaled_maximum_is_normal := Value.preFacts) := by
  intro m ρ m' ρ' hpre harg
  have hok := fun c => Value.pre_ok _ _ _ (hpre c)
  refine ⟨fun c => IdealBody.res0 (F := Ideal) m c, fun c => IdealBody.res1 (F := Ideal) m c, fun c => IdealBody.res2 (F := Ideal) m c, ?_, ?_⟩
  · exact (θ_run Cert.KernelIdeal.defs _ _).mono (fun _ (h : _ ∧ _) c => ⟨(h.1 c).1.1, (h.1 c).1.2.1, (h.1 c).1.2.2, (h.1 c).2⟩) (IdealBody.run_results (F := Ideal) m ρ)
  · refine (θ_run Cert.ReferenceIdeal.defs _ _).mono (fun _ h c => ?_) (RefValue.run_results m' ρ')
    obtain ⟨h0, h1, h2, h3⟩ := h c
    obtain ⟨a0, a1, a2⟩ := harg c
    rw [a0, a1, a2] at h0
    rw [a0] at h1 h2
    exact ⟨h0.trans (Value.res0_eq m c (hok c)).symm, h1.trans (Value.res1_eq m c (hok c)).symm, h2.trans (Value.res2_eq m c (hok c)).symm, h3⟩

theorem claim : Cert.Claim := ⟨Cert.Kernel.Gen.facts, Cert.KernelIdeal.Gen.facts, Cert.ReferenceIdeal.Gen.facts, Value.preFacts,
  kernel_quiescent, ideal_quiescent, fun m ρ _ => ideal_quiescent m ρ True.intro, fun m ρ _ => Cert.ReferenceIdeal.Gen.frame m ρ,
  fun m ρ _ => Cert.ReferenceIdeal.Gen.frame m ρ, trivial, algebraic⟩

end Cert.Proof

end
